-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_gate_finite [hPre_gate_finite : Cert.Pre_gate_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_gate_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_gate_finite [hPre_gate_finite : Cert.Pre_gate_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_gate_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InRest (m : (ℓ : Loc Cert.InRest.nD Cert.InRest.τ Cert.InRest.sig) → Buf (Elt Bits) ℓ) : Prop :=
  True

def Pre_InRestIdeal (m : (ℓ : Loc Cert.InRestIdeal.nD Cert.InRestIdeal.τ Cert.InRestIdeal.sig) → Buf (Elt Ideal) ℓ) : Prop :=
  True

def Pre_InRestIdeal_operands_finite [hPre_operands_finite : Cert.Pre_operands_finite.Facts] (m : (ℓ : Loc Cert.InRestIdeal.nD Cert.InRestIdeal.τ Cert.InRestIdeal.sig) → Buf (Elt Ideal) ℓ) : Prop :=
  ∀ c : Dev Cert.InRestIdeal.nD,
    (Cert.Pre_operands_finite.fn (F := Ideal) (m ((c.tc : Thread Cert.InRestIdeal.nD Cert.InRestIdeal.τ).loc Cert.InRestIdeal.main_arg0)) (m ((c.tc : Thread Cert.InRestIdeal.nD Cert.InRestIdeal.τ).loc Cert.InRestIdeal.main_arg1))) = (fun _ => 1#1)

def Pre_InRestRefIdeal (m : (ℓ : Loc Cert.InRestRefIdeal.nD Cert.InRestRefIdeal.τ Cert.InRestRefIdeal.sig) → Buf (Elt Ideal) ℓ) : Prop :=
  True

def Pre_InRestRefIdeal_operands_finite [hPre_operands_finite : Cert.Pre_operands_finite.Facts] (m : (ℓ : Loc Cert.InRestRefIdeal.nD Cert.InRestRefIdeal.τ Cert.InRestRefIdeal.sig) → Buf (Elt Ideal) ℓ) : Prop :=
  ∀ c : Dev Cert.InRestRefIdeal.nD,
    (Cert.Pre_operands_finite.fn (F := Ideal) (m ((c.tc : Thread Cert.InRestRefIdeal.nD Cert.InRestRefIdeal.τ).loc Cert.InRestRefIdeal.main_arg0)) (m ((c.tc : Thread Cert.InRestRefIdeal.nD Cert.InRestRefIdeal.τ).loc Cert.InRestRefIdeal.main_arg1))) = (fun _ => 1#1)

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_gate_finite [hFfnUpIdeal : Cert.FfnUpIdeal.Facts] [hPre_gate_finite : Cert.Pre_gate_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_gate_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_gate_finite [hFfnUpRefIdeal : Cert.FfnUpRefIdeal.Facts] [hPre_gate_finite : Cert.Pre_gate_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_gate_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_InRest [hInRest : Cert.InRest.Facts] : Prop :=
  ∀ (m : (ℓ : Loc Cert.InRest.nD Cert.InRest.τ Cert.InRest.sig) → Buf (Elt Bits) ℓ) (g : Dev Cert.InRest.nD → PrngReg), Pre_InRest m →
    θ_run (Cert.InRest.defs (F := Bits)) (onTc (τ := Cert.InRest.τ) (Cert.InRest.main (F := Bits))) ⟨m, fun _ => 0, g⟩ (fun r => (∀ c : Dev Cert.InRest.nD,
      r.2.mem ((c.tc : Thread Cert.InRest.nD Cert.InRest.τ).loc Cert.InRest.main_arg0) = m ((c.tc : Thread Cert.InRest.nD Cert.InRest.τ).loc Cert.InRest.main_arg0)
      ∧ r.2.mem ((c.tc : Thread Cert.InRest.nD Cert.InRest.τ).loc Cert.InRest.main_arg1) = m ((c.tc : Thread Cert.InRest.nD Cert.InRest.τ).loc Cert.InRest.main_arg1))
      ∧ r.2.sem = fun _ => 0)

def quiescent_InRestIdeal [hInRestIdeal : Cert.InRestIdeal.Facts] : Prop :=
  ∀ (m : (ℓ : Loc Cert.InRestIdeal.nD Cert.InRestIdeal.τ Cert.InRestIdeal.sig) → Buf (Elt Ideal) ℓ) (g : Dev Cert.InRestIdeal.nD → PrngReg), Pre_InRestIdeal m →
    θ_run (Cert.InRestIdeal.defs (F := Ideal)) (onTc (τ := Cert.InRestIdeal.τ) (Cert.InRestIdeal.main (F := Ideal))) ⟨m, fun _ => 0, g⟩ (fun r => (∀ c : Dev Cert.InRestIdeal.nD,
      r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
      ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ r.2.sem = fun _ => 0)

def quiescent_InRestIdeal_pre_operands_finite [hInRestIdeal : Cert.InRestIdeal.Facts] [hPre_operands_finite : Cert.Pre_operands_finite.Facts] : Prop :=
  ∀ (m : (ℓ : Loc Cert.InRestIdeal.nD Cert.InRestIdeal.τ Cert.InRestIdeal.sig) → Buf (Elt Ideal) ℓ) (g : Dev Cert.InRestIdeal.nD → PrngReg), Pre_InRestIdeal_operands_finite m →
    θ_run (Cert.InRestIdeal.defs (F := Ideal)) (onTc (τ := Cert.InRestIdeal.τ) (Cert.InRestIdeal.main (F := Ideal))) ⟨m, fun _ => 0, g⟩ (fun r => (∀ c : Dev Cert.InRestIdeal.nD,
      r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
      ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ r.2.sem = fun _ => 0)

def quiescent_InRestRefIdeal [hInRestRefIdeal : Cert.InRestRefIdeal.Facts] : Prop :=
  ∀ (m : (ℓ : Loc Cert.InRestRefIdeal.nD Cert.InRestRefIdeal.τ Cert.InRestRefIdeal.sig) → Buf (Elt Ideal) ℓ) (g : Dev Cert.InRestRefIdeal.nD → PrngReg), Pre_InRestRefIdeal m →
    θ_run (Cert.InRestRefIdeal.defs (F := Ideal)) (onTc (τ := Cert.InRestRefIdeal.τ) (Cert.InRestRefIdeal.main (F := Ideal))) ⟨m, fun _ => 0, g⟩ (fun r => (∀ c : Dev Cert.InRestRefIdeal.nD,
      r.2.mem ((c.tc : Thread Cert.InRestRefIdeal.nD Cert.InRestRefIdeal.τ).loc Cert.InRestRefIdeal.main_arg0) = m ((c.tc : Thread Cert.InRestRefIdeal.nD Cert.InRestRefIdeal.τ).loc Cert.InRestRefIdeal.main_arg0)
      ∧ r.2.mem ((c.tc : Thread Cert.InRestRefIdeal.nD Cert.InRestRefIdeal.τ).loc Cert.InRestRefIdeal.main_arg1) = m ((c.tc : Thread Cert.InRestRefIdeal.nD Cert.InRestRefIdeal.τ).loc Cert.InRestRefIdeal.main_arg1))
      ∧ r.2.sem = fun _ => 0)

def quiescent_InRestRefIdeal_pre_operands_finite [hInRestRefIdeal : Cert.InRestRefIdeal.Facts] [hPre_operands_finite : Cert.Pre_operands_finite.Facts] : Prop :=
  ∀ (m : (ℓ : Loc Cert.InRestRefIdeal.nD Cert.InRestRefIdeal.τ Cert.InRestRefIdeal.sig) → Buf (Elt Ideal) ℓ) (g : Dev Cert.InRestRefIdeal.nD → PrngReg), Pre_InRestRefIdeal_operands_finite m →
    θ_run (Cert.InRestRefIdeal.defs (F := Ideal)) (onTc (τ := Cert.InRestRefIdeal.τ) (Cert.InRestRefIdeal.main (F := Ideal))) ⟨m, fun _ => 0, g⟩ (fun r => (∀ c : Dev Cert.InRestRefIdeal.nD,
      r.2.mem ((c.tc : Thread Cert.InRestRefIdeal.nD Cert.InRestRefIdeal.τ).loc Cert.InRestRefIdeal.main_arg0) = m ((c.tc : Thread Cert.InRestRefIdeal.nD Cert.InRestRefIdeal.τ).loc Cert.InRestRefIdeal.main_arg0)
      ∧ r.2.mem ((c.tc : Thread Cert.InRestRefIdeal.nD Cert.InRestRefIdeal.τ).loc Cert.InRestRefIdeal.main_arg1) = m ((c.tc : Thread Cert.InRestRefIdeal.nD Cert.InRestRefIdeal.τ).loc Cert.InRestRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1)
      ∧ r.2.mem ((c.tc : Thread Cert.InQkv.nD Cert.InQkv.τ).loc Cert.InQkv.main_arg2) = m ((c.tc : Thread Cert.InQkv.nD Cert.InQkv.τ).loc Cert.InQkv.main_arg2)
      ∧ r.2.mem ((c.tc : Thread Cert.InQkv.nD Cert.InQkv.τ).loc Cert.InQkv.main_arg3) = m ((c.tc : Thread Cert.InQkv.nD Cert.InQkv.τ).loc Cert.InQkv.main_arg3))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1)
      ∧ r.2.mem ((c.tc : Thread Cert.InQkvIdeal.nD Cert.InQkvIdeal.τ).loc Cert.InQkvIdeal.main_arg2) = m ((c.tc : Thread Cert.InQkvIdeal.nD Cert.InQkvIdeal.τ).loc Cert.InQkvIdeal.main_arg2)
      ∧ r.2.mem ((c.tc : Thread Cert.InQkvIdeal.nD Cert.InQkvIdeal.τ).loc Cert.InQkvIdeal.main_arg3) = m ((c.tc : Thread Cert.InQkvIdeal.nD Cert.InQkvIdeal.τ).loc Cert.InQkvIdeal.main_arg3))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1)
      ∧ r.2.mem ((c.tc : Thread Cert.InQkvRefIdeal.nD Cert.InQkvRefIdeal.τ).loc Cert.InQkvRefIdeal.main_arg2) = m ((c.tc : Thread Cert.InQkvRefIdeal.nD Cert.InQkvRefIdeal.τ).loc Cert.InQkvRefIdeal.main_arg2)
      ∧ r.2.mem ((c.tc : Thread Cert.InQkvRefIdeal.nD Cert.InQkvRefIdeal.τ).loc Cert.InQkvRefIdeal.main_arg3) = m ((c.tc : Thread Cert.InQkvRefIdeal.nD Cert.InQkvRefIdeal.τ).loc Cert.InQkvRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      True)
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      True)
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      True)
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v2_0)) (v1 : (c : Dev Cert.XattnIdeal.nD) → Buf (Elt Ideal) ((c.tc : Thread Cert.XattnIdeal.nD Cert.XattnIdeal.τ).loc Cert.XattnIdeal.main_v2_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v2_0) = v0 c
          ∧ r.2.mem ((c.tc : Thread Cert.XattnIdeal.nD Cert.XattnIdeal.τ).loc Cert.XattnIdeal.main_v2_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v43) = v0 c
          ∧ r.2.mem ((c.tc : Thread Cert.XattnRefIdeal.nD Cert.XattnRefIdeal.τ).loc Cert.XattnRefIdeal.main_v58) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v1) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v15) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v12) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2))

def preserves_FfnUp_FfnUpIdeal : Prop :=
  True

def algebraic_FfnUpIdeal_FfnUpRefIdeal_pre_gate_finite [hFfnUpIdeal : Cert.FfnUpIdeal.Facts] [hFfnUpRefIdeal : Cert.FfnUpRefIdeal.Facts] [hPre_gate_finite : Cert.Pre_gate_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_gate_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v10) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v18) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_InRest_InRestIdeal : Prop :=
  IdealRules.named_const.Statement Cert.InRestIdeal.κ "sqrt_2_pi_cubic" .f32 0x3D122279#32 (((6693141 / 8388608) * (12003091 / 268435456) : ℝ) : EReal)

def algebraic_InRestIdeal_InRestRefIdeal_pre_operands_finite [hInRestIdeal : Cert.InRestIdeal.Facts] [hInRestRefIdeal : Cert.InRestRefIdeal.Facts] [hPre_operands_finite : Cert.Pre_operands_finite.Facts] : Prop :=
  ∀ (m : (ℓ : Loc Cert.InRestIdeal.nD Cert.InRestIdeal.τ Cert.InRestIdeal.sig) → Buf (Elt Ideal) ℓ) (g : Dev Cert.InRestIdeal.nD → PrngReg)
    (m' : (ℓ : Loc Cert.InRestRefIdeal.nD Cert.InRestRefIdeal.τ Cert.InRestRefIdeal.sig) → Buf (Elt Ideal) ℓ) (g' : Dev Cert.InRestRefIdeal.nD → PrngReg), Pre_InRestIdeal_operands_finite m →
    (∀ c : Dev Cert.InRestIdeal.nD,
      m' ((c.tc : Thread Cert.InRestRefIdeal.nD Cert.InRestRefIdeal.τ).loc Cert.InRestRefIdeal.main_arg0) = m ((c.tc : Thread Cert.InRestIdeal.nD Cert.InRestIdeal.τ).loc Cert.InRestIdeal.main_arg0)
      ∧ m' ((c.tc : Thread Cert.InRestRefIdeal.nD Cert.InRestRefIdeal.τ).loc Cert.InRestRefIdeal.main_arg1) = m ((c.tc : Thread Cert.InRestIdeal.nD Cert.InRestIdeal.τ).loc Cert.InRestIdeal.main_arg1)) →
    ∃ (v0 : (c : Dev Cert.InRestIdeal.nD) → Buf (Elt Ideal) ((c.tc : Thread Cert.InRestIdeal.nD Cert.InRestIdeal.τ).loc Cert.InRestIdeal.main_v0)),
      θ_run (Cert.InRestIdeal.defs (F := Ideal)) (onTc (τ := Cert.InRestIdeal.τ) (Cert.InRestIdeal.main (F := Ideal))) ⟨m, fun _ => 0, g⟩ (fun r => ∀ c : Dev Cert.InRestIdeal.nD,
          r.2.mem ((c.tc : Thread Cert.InRestIdeal.nD Cert.InRestIdeal.τ).loc Cert.InRestIdeal.main_v0) = v0 c
          ∧ r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
          ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ θ_run (Cert.InRestRefIdeal.defs (F := Ideal)) (onTc (τ := Cert.InRestRefIdeal.τ) (Cert.InRestRefIdeal.main (F := Ideal))) ⟨m', fun _ => 0, g'⟩ (fun r => ∀ c : Dev Cert.InRestRefIdeal.nD,
          r.2.mem ((c.tc : Thread Cert.InRestRefIdeal.nD Cert.InRestRefIdeal.τ).loc Cert.InRestRefIdeal.main_v25) = v0 c
          ∧ r.2.mem ((c.tc : Thread Cert.InRestRefIdeal.nD Cert.InRestRefIdeal.τ).loc Cert.InRestRefIdeal.main_arg0) = m' ((c.tc : Thread Cert.InRestRefIdeal.nD Cert.InRestRefIdeal.τ).loc Cert.InRestRefIdeal.main_arg0)
          ∧ r.2.mem ((c.tc : Thread Cert.InRestRefIdeal.nD Cert.InRestRefIdeal.τ).loc Cert.InRestRefIdeal.main_arg1) = m' ((c.tc : Thread Cert.InRestRefIdeal.nD Cert.InRestRefIdeal.τ).loc Cert.InRestRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)
      ∧ m' ((c.tc : Thread Cert.InQkvRefIdeal.nD Cert.InQkvRefIdeal.τ).loc Cert.InQkvRefIdeal.main_arg2) = m ((c.tc : Thread Cert.InQkvIdeal.nD Cert.InQkvIdeal.τ).loc Cert.InQkvIdeal.main_arg2)
      ∧ m' ((c.tc : Thread Cert.InQkvRefIdeal.nD Cert.InQkvRefIdeal.τ).loc Cert.InQkvRefIdeal.main_arg3) = m ((c.tc : Thread Cert.InQkvIdeal.nD Cert.InQkvIdeal.τ).loc Cert.InQkvIdeal.main_arg3)) →
    ∃ (v0 : (c : Dev Cert.InQkvIdeal.nD) → Buf (Elt Ideal) ((c.tc : Thread Cert.InQkvIdeal.nD Cert.InQkvIdeal.τ).loc Cert.InQkvIdeal.main_v3)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v3) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1)
          ∧ r.2.mem ((c.tc : Thread Cert.InQkvIdeal.nD Cert.InQkvIdeal.τ).loc Cert.InQkvIdeal.main_arg2) = m ((c.tc : Thread Cert.InQkvIdeal.nD Cert.InQkvIdeal.τ).loc Cert.InQkvIdeal.main_arg2)
          ∧ r.2.mem ((c.tc : Thread Cert.InQkvIdeal.nD Cert.InQkvIdeal.τ).loc Cert.InQkvIdeal.main_arg3) = m ((c.tc : Thread Cert.InQkvIdeal.nD Cert.InQkvIdeal.τ).loc Cert.InQkvIdeal.main_arg3))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v43) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1)
          ∧ r.2.mem ((c.tc : Thread Cert.InQkvRefIdeal.nD Cert.InQkvRefIdeal.τ).loc Cert.InQkvRefIdeal.main_arg2) = m' ((c.tc : Thread Cert.InQkvRefIdeal.nD Cert.InQkvRefIdeal.τ).loc Cert.InQkvRefIdeal.main_arg2)
          ∧ r.2.mem ((c.tc : Thread Cert.InQkvRefIdeal.nD Cert.InQkvRefIdeal.τ).loc Cert.InQkvRefIdeal.main_arg3) = m' ((c.tc : Thread Cert.InQkvRefIdeal.nD Cert.InQkvRefIdeal.τ).loc Cert.InQkvRefIdeal.main_arg3))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v44) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      True) →
    ∃ (v0 : (c : Dev Cert.RopeIdeal.nD) → Buf (Elt Ideal) ((c.tc : Thread Cert.RopeIdeal.nD Cert.RopeIdeal.τ).loc Cert.RopeIdeal.main_v10_0)) (v1 : (c : Dev Cert.RopeIdeal.nD) → Buf (Elt Ideal) ((c.tc : Thread Cert.RopeIdeal.nD Cert.RopeIdeal.τ).loc Cert.RopeIdeal.main_v10_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v10_0) = v0 c
          ∧ r.2.mem ((c.tc : Thread Cert.RopeIdeal.nD Cert.RopeIdeal.τ).loc Cert.RopeIdeal.main_v10_1) = v1 c)
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v16) = v0 c
          ∧ r.2.mem ((c.tc : Thread Cert.RopeRefIdeal.nD Cert.RopeRefIdeal.τ).loc Cert.RopeRefIdeal.main_v18) = v1 c)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hXattn : Cert.Xattn.Facts) (hXattnIdeal : Cert.XattnIdeal.Facts) (hXattnRefIdeal : Cert.XattnRefIdeal.Facts) (hMemkv : Cert.Memkv.Facts) (hMemkvIdeal : Cert.MemkvIdeal.Facts) (hMemkvRefIdeal : Cert.MemkvRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInRest : Cert.InRest.Facts) (hInRestIdeal : Cert.InRestIdeal.Facts) (hInRestRefIdeal : Cert.InRestRefIdeal.Facts) (hInQkv : Cert.InQkv.Facts) (hInQkvIdeal : Cert.InQkvIdeal.Facts) (hInQkvRefIdeal : Cert.InQkvRefIdeal.Facts) (hSgu : Cert.Sgu.Facts) (hSguIdeal : Cert.SguIdeal.Facts) (hSguRefIdeal : Cert.SguRefIdeal.Facts) (hRope : Cert.Rope.Facts) (hRopeIdeal : Cert.RopeIdeal.Facts) (hRopeRefIdeal : Cert.RopeRefIdeal.Facts) (hNorm : Cert.Norm.Facts) (hNormIdeal : Cert.NormIdeal.Facts) (hNormRefIdeal : Cert.NormRefIdeal.Facts) (hPre_gate_finite : Cert.Pre_gate_finite.Facts) (hPre_operands_finite : Cert.Pre_operands_finite.Facts),
    quiescent_Xattn (hXattn := hXattn)
    ∧ quiescent_XattnIdeal (hXattnIdeal := hXattnIdeal)
    ∧ quiescent_XattnRefIdeal (hXattnRefIdeal := hXattnRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_FfnUp (hFfnUp := hFfnUp)
    ∧ quiescent_FfnUpIdeal (hFfnUpIdeal := hFfnUpIdeal)
    ∧ quiescent_FfnUpIdeal_pre_gate_finite (hFfnUpIdeal := hFfnUpIdeal) (hPre_gate_finite := hPre_gate_finite)
    ∧ quiescent_FfnUpRefIdeal (hFfnUpRefIdeal := hFfnUpRefIdeal)
    ∧ quiescent_FfnUpRefIdeal_pre_gate_finite (hFfnUpRefIdeal := hFfnUpRefIdeal) (hPre_gate_finite := hPre_gate_finite)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InRest (hInRest := hInRest)
    ∧ quiescent_InRestIdeal (hInRestIdeal := hInRestIdeal)
    ∧ quiescent_InRestIdeal_pre_operands_finite (hInRestIdeal := hInRestIdeal) (hPre_operands_finite := hPre_operands_finite)
    ∧ quiescent_InRestRefIdeal (hInRestRefIdeal := hInRestRefIdeal)
    ∧ quiescent_InRestRefIdeal_pre_operands_finite (hInRestRefIdeal := hInRestRefIdeal) (hPre_operands_finite := hPre_operands_finite)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_Sgu (hSgu := hSgu)
    ∧ quiescent_SguIdeal (hSguIdeal := hSguIdeal)
    ∧ quiescent_SguRefIdeal (hSguRefIdeal := hSguRefIdeal)
    ∧ quiescent_Rope (hRope := hRope)
    ∧ quiescent_RopeIdeal (hRopeIdeal := hRopeIdeal)
    ∧ quiescent_RopeRefIdeal (hRopeRefIdeal := hRopeRefIdeal)
    ∧ quiescent_Norm (hNorm := hNorm)
    ∧ quiescent_NormIdeal (hNormIdeal := hNormIdeal)
    ∧ quiescent_NormRefIdeal (hNormRefIdeal := hNormRefIdeal)
    ∧ preserves_Xattn_XattnIdeal
    ∧ algebraic_XattnIdeal_XattnRefIdeal (hXattnIdeal := hXattnIdeal) (hXattnRefIdeal := hXattnRefIdeal)
    ∧ preserves_Memkv_MemkvIdeal
    ∧ algebraic_MemkvIdeal_MemkvRefIdeal (hMemkvIdeal := hMemkvIdeal) (hMemkvRefIdeal := hMemkvRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_FfnUp_FfnUpIdeal
    ∧ algebraic_FfnUpIdeal_FfnUpRefIdeal_pre_gate_finite (hFfnUpIdeal := hFfnUpIdeal) (hFfnUpRefIdeal := hFfnUpRefIdeal) (hPre_gate_finite := hPre_gate_finite)
    ∧ preserves_FfnDown_FfnDownIdeal
    ∧ algebraic_FfnDownIdeal_FfnDownRefIdeal (hFfnDownIdeal := hFfnDownIdeal) (hFfnDownRefIdeal := hFfnDownRefIdeal)
    ∧ preserves_InRest_InRestIdeal
    ∧ algebraic_InRestIdeal_InRestRefIdeal_pre_operands_finite (hInRestIdeal := hInRestIdeal) (hInRestRefIdeal := hInRestRefIdeal) (hPre_operands_finite := hPre_operands_finite)
    ∧ preserves_InQkv_InQkvIdeal
    ∧ algebraic_InQkvIdeal_InQkvRefIdeal (hInQkvIdeal := hInQkvIdeal) (hInQkvRefIdeal := hInQkvRefIdeal)
    ∧ preserves_Sgu_SguIdeal
    ∧ algebraic_SguIdeal_SguRefIdeal (hSguIdeal := hSguIdeal) (hSguRefIdeal := hSguRefIdeal)
    ∧ preserves_Rope_RopeIdeal
    ∧ algebraic_RopeIdeal_RopeRefIdeal (hRopeIdeal := hRopeIdeal) (hRopeRefIdeal := hRopeRefIdeal)
    ∧ preserves_Norm_NormIdeal
    ∧ algebraic_NormIdeal_NormRefIdeal (hNormIdeal := hNormIdeal) (hNormRefIdeal := hNormRefIdeal)
-- ==== Pre_gate_finite.lean ====
abbrev S16384x4096 : Shape := ⟨2, ![16384, 4096]⟩
abbrev S4096x11264 : Shape := ⟨2, ![4096, 11264]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x11264 : S_.BroadcastsInDim S4096x11264 (![] : Fin 0 → Fin S4096x11264.rank)
  reducesTo_S4096x11264_S_d0_1 : S4096x11264.ReducesTo [0, 1] S_

variable [Facts]

def fn {F : FTy → Type} [FloatOps F] (main_arg0 : FVec F S16384x4096 .bf16) (main_arg1 : FVec F S4096x11264 .bf16) (main_arg2 : FVec F S4096x11264 .bf16) : IVec S_ 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x11264 .bf16 := Host.absf main_arg1
  let main_cst_0 : FVec F S_ .bf16 := constant S_ .bf16 0x7F80#16
  let main_v5 : FVec F S4096x11264 .bf16 := broadcastInDim S4096x11264 ![] bcast_S_S4096x11264 main_cst_0
  let main_v6 : IVec S4096x11264 1 := cmpf .olt main_v4 main_v5
  let main_c_1 : IVec S_ 1 := constantI S_ 1 1#1
  let main_v7 : IVec S_ 1 := (fun x v => Host.reduce IntOp.andi x v reducesTo_S4096x11264_S_d0_1 h_S_) main_v6 main_c_1
  let main_v8 : IVec S_ 1 := andi main_v3 main_v7
  main_v8
-- ==== Pre_operands_finite.lean ====
abbrev S16384x4096 : Shape := ⟨2, ![16384, 4096]⟩
abbrev S4096x12288 : Shape := ⟨2, ![4096, 12288]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x12288 : S_.BroadcastsInDim S4096x12288 (![] : Fin 0 → Fin S4096x12288.rank)
  reducesTo_S4096x12288_S_d0_1 : S4096x12288.ReducesTo [0, 1] S_

variable [Facts]

def fn {F : FTy → Type} [FloatOps F] (main_arg0 : FVec F S16384x4096 .bf16) (main_arg1 : FVec F S4096x12288 .bf16) : IVec S_ 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x12288 .bf16 := Host.absf main_arg1
  let main_cst_0 : FVec F S_ .bf16 := constant S_ .bf16 0x7F80#16
  let main_v5 : FVec F S4096x12288 .bf16 := broadcastInDim S4096x12288 ![] bcast_S_S4096x12288 main_cst_0
  let main_v6 : IVec S4096x12288 1 := cmpf .olt main_v4 main_v5
  let main_c_1 : IVec S_ 1 := constantI S_ 1 1#1
  let main_v7 : IVec S_ 1 := (fun x v => Host.reduce IntOp.andi x v reducesTo_S4096x12288_S_d0_1 h_S_) main_v6 main_c_1
  let main_v8 : IVec S_ 1 := andi main_v3 main_v7
  main_v8
-- ==== Xattn.lean ====
abbrev S16384x4096 : Shape := ⟨2, ![16384, 4096]⟩
abbrev S4096 : Shape := ⟨1, ![4096]⟩
abbrev S4096x512 : Shape := ⟨2, ![4096, 512]⟩
abbrev S512x1024 : Shape := ⟨2, ![512, 1024]⟩
abbrev S512x4096 : Shape := ⟨2, ![512, 4096]⟩
abbrev S1x4096 : Shape := ⟨2, ![1, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩

abbrev nBuf : Space → Nat
  | .hbm => 10
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .bf16⟩
  | .hbm, ⟨3, _⟩ => ⟨S512x1024, .bf16⟩
  | .hbm, ⟨4, _⟩ => ⟨S512x4096, .bf16⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .hbm, ⟨9, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S256x1024, .bf16⟩
  | .local _ .vmem, ⟨5, _⟩ => ⟨S256x1024, .bf16⟩
  | .local _ .vmem, ⟨6, _⟩ => ⟨S512x4096, .bf16⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== XattnRefIdeal.lean ====
abbrev S16384x4096 : Shape := ⟨2, ![16384, 4096]⟩
abbrev S4096 : Shape := ⟨1, ![4096]⟩
abbrev S4096x512 : Shape := ⟨2, ![4096, 512]⟩
abbrev S512x1024 : Shape := ⟨2, ![512, 1024]⟩
abbrev S512x4096 : Shape := ⟨2, ![512, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x512 : Shape := ⟨3, ![2, 8192, 512]⟩
abbrev S2x8192x4x128 : Shape := ⟨4, ![2, 8192, 4, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 75
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .bf16⟩
  | .hbm, ⟨3, _⟩ => ⟨S512x1024, .bf16⟩
  | .hbm, ⟨4, _⟩ => ⟨S512x4096, .bf16⟩
  | .hbm, ⟨5, _⟩ => ⟨S4096, .f32⟩
  | .hbm, ⟨6, _⟩ => ⟨S4096x512, .f32⟩
  | .hbm, ⟨7, _⟩ => ⟨S512x1024, .f32⟩
  | .hbm, ⟨8, _⟩ => ⟨S512x4096, .f32⟩
  | .hbm, ⟨9, _⟩ => ⟨S2x8192x4096, .f32⟩
  | .hbm, ⟨10, _⟩ => ⟨S2x8192x4096, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x4096, .f32⟩
  | .hbm, ⟨22, _⟩ => ⟨S2x8192x4096, .f32⟩
  | .hbm, ⟨23, _⟩ => ⟨S1x1x4096, .f32⟩
  | .hbm, ⟨24, _⟩ => ⟨S2x8192x4096, .f32⟩
  | .hbm, ⟨25, _⟩ => ⟨S2x8192x4096, .f32⟩
  | .hbm, ⟨26, _⟩ => ⟨S2x8192x512, .f32⟩
  | .hbm, ⟨27, _⟩ => ⟨S2x8192x4x128, .f32⟩
  | .hbm, ⟨28, _⟩ => ⟨S2x256x1024, .f32⟩
  | .hbm, ⟨29, _⟩ => ⟨S2x256x512, .f32⟩
  | .hbm, ⟨30, _⟩ => ⟨S2x256x512, .f32⟩
  | .hbm, ⟨31, _⟩ => ⟨S2x256x4x128, .f32⟩
  | .hbm, ⟨32, _⟩ => ⟨S2x256x4x128, .f32⟩
  | .hbm, ⟨33, _⟩ => ⟨S2x4x8192x256, .f32⟩
  | .hbm, ⟨34, _⟩ => ⟨S_, .f32⟩
  | .hbm, ⟨35, _⟩ => ⟨S2x4x8192x256, .f32⟩
  | .hbm, ⟨36, _⟩ => ⟨S2x4x8192x256, .f32⟩
  | .hbm, ⟨37, _⟩ => ⟨S_, .f32⟩
  | .hbm, ⟨38, _⟩ => ⟨S2x4x8192, .f32⟩
  | .hbm, ⟨39, _⟩ => ⟨S_, .f32⟩
  | .hbm, ⟨40, _⟩ => ⟨S2x4x8192, .f32⟩
  | .hbm, ⟨41, _⟩ => ⟨S2x4x8192, .f32⟩
  | .hbm, ⟨42, _⟩ => ⟨S2x4x8192x1, .f32⟩
  | .hbm, ⟨43, _⟩ => ⟨S2x4x8192x256, .f32⟩
  | .hbm, ⟨44, _⟩ => ⟨S2x4x8192x256, .f32⟩
  | .hbm, ⟨45, _⟩ => ⟨S2x4x8192x256, .f32⟩
  | .hbm, ⟨46, _⟩ => ⟨S_, .f32⟩
  | .hbm, ⟨47, _⟩ => ⟨S2x4x8192, .f32⟩
  | .hbm, ⟨48, _⟩ => ⟨S2x4x8192x1, .f32⟩
  | .hbm, ⟨49, _⟩ => ⟨S2x4x8192x256, .f32⟩
  | .hbm, ⟨50, _⟩ => ⟨S2x4x8192x256, .f32⟩
  | .hbm, ⟨51, _⟩ => ⟨S2x4x128x8192, .f32⟩
  | .hbm, ⟨52, _⟩ => ⟨S2x8192x4x128, .f32⟩
  | .hbm, ⟨53, _⟩ => ⟨S2x8192x512, .f32⟩
  | .hbm, ⟨54, _⟩ => ⟨S2x8192x4096, .f32⟩
  | .hbm, ⟨55, _⟩ => ⟨S2x8192x4096, .f32⟩
  | .hbm, ⟨56, _⟩ => ⟨S16384x4096, .f32⟩
  | .hbm, ⟨57, _⟩ => ⟨S2x8192x4096, .f32⟩
  | .hbm, ⟨58, _⟩ => ⟨S_, .f32⟩
  | .hbm, ⟨59, _⟩ => ⟨S2x8192, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S2x8192x1, .f32⟩
  | .hbm, ⟨68, _⟩ => ⟨S2x8192x4096, .f32⟩
  | .hbm, ⟨69, _⟩ => ⟨S2x8192x4096, .f32⟩
  | .hbm, ⟨70, _⟩ => ⟨S1x1x4096, .f32⟩
  | .hbm, ⟨71, _⟩ => ⟨S2x8192x4096, .f32⟩
  | .hbm, ⟨72, _⟩ => ⟨S2x8192x4096, .f32⟩
  | .hbm, ⟨73, _⟩ => ⟨S16384x4096, .f32⟩
  | .hbm, ⟨74, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Memkv.lean ====
abbrev S512x4096 : Shape := ⟨2, ![512, 4096]⟩
abbrev S4096 : Shape := ⟨1, ![4096]⟩
abbrev S4096x1024 : Shape := ⟨2, ![4096, 1024]⟩
abbrev S1x4096 : Shape := ⟨2, ![1, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096x1024, .bf16⟩
  | .hbm, ⟨3, _⟩ => ⟨S1x4096, .f32⟩
  | .hbm, ⟨4, _⟩ => ⟨S512x1024, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvRefIdeal.lean ====
abbrev S512x4096 : Shape := ⟨2, ![512, 4096]⟩
abbrev S4096 : Shape := ⟨1, ![4096]⟩
abbrev S4096x1024 : Shape := ⟨2, ![4096, 1024]⟩
abbrev S_ : Shape := ⟨0, ![]⟩
abbrev S512 : Shape := ⟨1, ![512]⟩
abbrev S512x1 : Shape := ⟨2, ![512, 1]⟩
abbrev S1x4096 : Shape := ⟨2, ![1, 4096]⟩
abbrev S512x1024 : Shape := ⟨2, ![512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096x1024, .bf16⟩
  | .hbm, ⟨3, _⟩ => ⟨S4096x1024, .f32⟩
  | .hbm, ⟨4, _⟩ => ⟨S512x4096, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x4096, .f32⟩
  | .hbm, ⟨16, _⟩ => ⟨S512x4096, .f32⟩
  | .hbm, ⟨17, _⟩ => ⟨S1x4096, .f32⟩
  | .hbm, ⟨18, _⟩ => ⟨S512x4096, .f32⟩
  | .hbm, ⟨19, _⟩ => ⟨S512x4096, .f32⟩
  | .hbm, ⟨20, _⟩ => ⟨S512x1024, .f32⟩
  | .hbm, ⟨21, _⟩ => ⟨S512x1024, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Merge.lean ====
abbrev S16384x2048 : Shape := ⟨2, ![16384, 2048]⟩
abbrev S2048x4096 : Shape := ⟨2, ![2048, 4096]⟩
abbrev S16384x12288 : Shape := ⟨2, ![16384, 12288]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x12288, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x2048 : Shape := ⟨2, ![16384, 2048]⟩
abbrev S2048x4096 : Shape := ⟨2, ![2048, 4096]⟩
abbrev S16384x12288 : Shape := ⟨2, ![16384, 12288]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x12288, .bf16⟩
  | .hbm, ⟨5, _⟩ => ⟨S16384x2048, .f32⟩
  | .hbm, ⟨6, _⟩ => ⟨S16384x2048, .f32⟩
  | .hbm, ⟨7, _⟩ => ⟨S2048x4096, .f32⟩
  | .hbm, ⟨8, _⟩ => ⟨S2048x4096, .f32⟩
  | .hbm, ⟨9, _⟩ => ⟨S16384x12288, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Outproj.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutprojRefIdeal.lean ====
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S16384x4096 : Shape := ⟨2, ![16384, 4096]⟩
abbrev S4096x11264 : Shape := ⟨2, ![4096, 11264]⟩
abbrev S16384x11264 : Shape := ⟨2, ![16384, 11264]⟩
abbrev S1024x4096 : Shape := ⟨2, ![1024, 4096]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c10_i32_0 : BitVec 32 := 10#32
  let v3 : BitVec 1 := Scalar.cmpi .eq arg1 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S16384x4096 : Shape := ⟨2, ![16384, 4096]⟩
abbrev S4096x11264 : Shape := ⟨2, ![4096, 11264]⟩
abbrev S4096x11008 : Shape := ⟨2, ![4096, 11008]⟩
abbrev S16384x11008 : Shape := ⟨2, ![16384, 11008]⟩
abbrev S_ : Shape := ⟨0, ![]⟩
abbrev S16384x11264 : Shape := ⟨2, ![16384, 11264]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S4096x11008, .bf16⟩
  | .hbm, ⟨4, _⟩ => ⟨S4096x11008, .bf16⟩
  | .hbm, ⟨5, _⟩ => ⟨S16384x4096, .f32⟩
  | .hbm, ⟨6, _⟩ => ⟨S4096x11008, .f32⟩
  | .hbm, ⟨7, _⟩ => ⟨S4096x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x11008, .f32⟩
  | .hbm, ⟨19, _⟩ => ⟨S16384x11008, .f32⟩
  | .hbm, ⟨20, _⟩ => ⟨S_, .i32⟩
  | .hbm, ⟨21, _⟩ => ⟨S_, .f32⟩
  | .hbm, ⟨22, _⟩ => ⟨S16384x11264, .f32⟩
  | .hbm, ⟨23, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== FfnDown.lean ====
abbrev S16384x11264 : Shape := ⟨2, ![16384, 11264]⟩
abbrev S11264x4096 : Shape := ⟨2, ![11264, 4096]⟩
abbrev S16384x4096 : Shape := ⟨2, ![16384, 4096]⟩
abbrev S4096 : Shape := ⟨1, ![4096]⟩
abbrev S1x4096 : Shape := ⟨2, ![1, 4096]⟩
abbrev S512x1024 : Shape := ⟨2, ![512, 1024]⟩
abbrev S1024x4096 : Shape := ⟨2, ![1024, 4096]⟩
abbrev S512x4096 : Shape := ⟨2, ![512, 4096]⟩
abbrev S1024x1024 : Shape := ⟨2, ![1024, 1024]⟩
abbrev S512x768 : Shape := ⟨2, ![512, 768]⟩
abbrev S768x1024 : Shape := ⟨2, ![768, 1024]⟩
abbrev S64x4096 : Shape := ⟨2, ![64, 4096]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDownRefIdeal.lean ====
abbrev S16384x11264 : Shape := ⟨2, ![16384, 11264]⟩
abbrev S11264x4096 : Shape := ⟨2, ![11264, 4096]⟩
abbrev S16384x4096 : Shape := ⟨2, ![16384, 4096]⟩
abbrev S4096 : Shape := ⟨1, ![4096]⟩
abbrev S16384x11008 : Shape := ⟨2, ![16384, 11008]⟩
abbrev S11008x4096 : Shape := ⟨2, ![11008, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S4096, .f32⟩
  | .hbm, ⟨4, _⟩ => ⟨S16384x11008, .bf16⟩
  | .hbm, ⟨5, _⟩ => ⟨S11008x4096, .bf16⟩
  | .hbm, ⟨6, _⟩ => ⟨S16384x11008, .f32⟩
  | .hbm, ⟨7, _⟩ => ⟨S11008x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InRest.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c4_i32_1 : BitVec 32 := 4#32
  let v5 : BitVec 1 := Scalar.cmpi .sge arg1 c4_i32_1
  let c12_i32 : BitVec 32 := 12#32
  let v6 : BitVec 1 := Scalar.cmpi .slt arg1 c12_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRestIdeal.lean ====
variable {F : FTy → Type} [FloatOps F] [Named F]
def κ : String → Option EReal := fun
  | "sqrt_2_pi_cubic" => some (((6693141 / 8388608) * (12003091 / 268435456) : ℝ) : EReal)
  | _ => none
-- ==== InRestRefIdeal.lean ====
abbrev S16384x4096 : Shape := ⟨2, ![16384, 4096]⟩
abbrev S4096x12288 : Shape := ⟨2, ![4096, 12288]⟩
abbrev S16384x12288 : Shape := ⟨2, ![16384, 12288]⟩
abbrev S16384x8192 : Shape := ⟨2, ![16384, 8192]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x4096, .f32⟩
  | .hbm, ⟨6, _⟩ => ⟨S16384x8192, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x8192, .f32⟩
  | .hbm, ⟨25, _⟩ => ⟨S16384x8192, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S_, .f32⟩
  | .hbm, ⟨30, _⟩ => ⟨S16384x8192, .f32⟩
  | .hbm, ⟨31, _⟩ => ⟨S16384x8192, .f32⟩
  | .hbm, ⟨32, _⟩ => ⟨S16384x12288, .f32⟩
  | .hbm, ⟨33, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== InQkv.lean ====
abbrev S16384x4096 : Shape := ⟨2, ![16384, 4096]⟩
abbrev S4096x6144 : Shape := ⟨2, ![4096, 6144]⟩
abbrev S8192x64 : Shape := ⟨2, ![8192, 64]⟩
abbrev S8192x128 : Shape := ⟨2, ![8192, 128]⟩
abbrev S16384x6144 : Shape := ⟨2, ![16384, 6144]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S8192x64, .f32⟩
  | .hbm, ⟨3, _⟩ => ⟨S8192x64, .f32⟩
  | .hbm, ⟨4, _⟩ => ⟨S8192x128, .f32⟩
  | .hbm, ⟨5, _⟩ => ⟨S8192x64, .f32⟩
  | .hbm, ⟨6, _⟩ => ⟨S8192x128, .f32⟩
  | .hbm, ⟨7, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InQkvRefIdeal.lean ====
abbrev S16384x4096 : Shape := ⟨2, ![16384, 4096]⟩
abbrev S4096x6144 : Shape := ⟨2, ![4096, 6144]⟩
abbrev S8192x64 : Shape := ⟨2, ![8192, 64]⟩
abbrev S16384x6144 : Shape := ⟨2, ![16384, 6144]⟩
abbrev S16384x2048 : Shape := ⟨2, ![16384, 2048]⟩
abbrev S2x8192x16x128 : Shape := ⟨4, ![2, 8192, 16, 128]⟩
abbrev S2x8192x16x64 : Shape := ⟨4, ![2, 8192, 16, 64]⟩
abbrev S1x8192x1x64 : Shape := ⟨4, ![1, 8192, 1, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S8192x64, .f32⟩
  | .hbm, ⟨3, _⟩ => ⟨S8192x64, .f32⟩
  | .hbm, ⟨4, _⟩ => ⟨S16384x4096, .f32⟩
  | .hbm, ⟨5, _⟩ => ⟨S4096x6144, .f32⟩
  | .hbm, ⟨6, _⟩ => ⟨S16384x6144, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S2x8192x16x128, .f32⟩
  | .hbm, ⟨11, _⟩ => ⟨S2x8192x16x64, .f32⟩
  | .hbm, ⟨12, _⟩ => ⟨S2x8192x16x64, .f32⟩
  | .hbm, ⟨13, _⟩ => ⟨S1x8192x1x64, .f32⟩
  | .hbm, ⟨14, _⟩ => ⟨S1x8192x1x64, .f32⟩
  | .hbm, ⟨15, _⟩ => ⟨S2x8192x16x64, .f32⟩
  | .hbm, ⟨16, _⟩ => ⟨S2x8192x16x64, .f32⟩
  | .hbm, ⟨17, _⟩ => ⟨S2x8192x16x64, .f32⟩
  | .hbm, ⟨18, _⟩ => ⟨S2x8192x16x64, .f32⟩
  | .hbm, ⟨19, _⟩ => ⟨S2x8192x16x64, .f32⟩
  | .hbm, ⟨20, _⟩ => ⟨S2x8192x16x64, .f32⟩
  | .hbm, ⟨21, _⟩ => ⟨S2x8192x16x64, .f32⟩
  | .hbm, ⟨22, _⟩ => ⟨S2x8192x16x64, .f32⟩
  | .hbm, ⟨23, _⟩ => ⟨S2x8192x16x64, .f32⟩
  | .hbm, ⟨24, _⟩ => ⟨S2x8192x16x64, .f32⟩
  | .hbm, ⟨25, _⟩ => ⟨S2x8192x16x128, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S2x8192x16x128, .f32⟩
  | .hbm, ⟨31, _⟩ => ⟨S2x8192x16x64, .f32⟩
  | .hbm, ⟨32, _⟩ => ⟨S2x8192x16x64, .f32⟩
  | .hbm, ⟨33, _⟩ => ⟨S1x8192x1x64, .f32⟩
  | .hbm, ⟨34, _⟩ => ⟨S1x8192x1x64, .f32⟩
  | .hbm, ⟨35, _⟩ => ⟨S2x8192x16x64, .f32⟩
  | .hbm, ⟨36, _⟩ => ⟨S2x8192x16x64, .f32⟩
  | .hbm, ⟨37, _⟩ => ⟨S2x8192x16x64, .f32⟩
  | .hbm, ⟨38, _⟩ => ⟨S2x8192x16x64, .f32⟩
  | .hbm, ⟨39, _⟩ => ⟨S2x8192x16x64, .f32⟩
  | .hbm, ⟨40, _⟩ => ⟨S2x8192x16x64, .f32⟩
  | .hbm, ⟨41, _⟩ => ⟨S2x8192x16x64, .f32⟩
  | .hbm, ⟨42, _⟩ => ⟨S2x8192x16x64, .f32⟩
  | .hbm, ⟨43, _⟩ => ⟨S2x8192x16x64, .f32⟩
  | .hbm, ⟨44, _⟩ => ⟨S2x8192x16x64, .f32⟩
  | .hbm, ⟨45, _⟩ => ⟨S2x8192x16x128, .f32⟩
  | .hbm, ⟨46, _⟩ => ⟨S16384x2048, .f32⟩
  | .hbm, ⟨47, _⟩ => ⟨S16384x6144, .f32⟩
  | .hbm, ⟨48, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Sgu.lean ====
abbrev S16384x12288 : Shape := ⟨2, ![16384, 12288]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S1x2048 : Shape := ⟨2, ![1, 2048]⟩
abbrev S16384x2048 : Shape := ⟨2, ![16384, 2048]⟩
abbrev S1024x2048 : Shape := ⟨2, ![1024, 2048]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x12288, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S128x16, .f32⟩
  | .hbm, ⟨6, _⟩ => ⟨S1x2048, .f32⟩
  | .hbm, ⟨7, _⟩ => ⟨S1x2048, .f32⟩
  | .hbm, ⟨8, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S1024x2048, .bf16⟩
  | .local _ .vmem, ⟨9, _⟩ => ⟨S1024x2048, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S16384x12288 : Shape := ⟨2, ![16384, 12288]⟩
abbrev S2048 : Shape := ⟨1, ![2048]⟩
abbrev S16x128x128 : Shape := ⟨3, ![16, 128, 128]⟩
abbrev S16x128 : Shape := ⟨2, ![16, 128]⟩
abbrev S16384x2048 : Shape := ⟨2, ![16384, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x64x128x16x128 : Shape := ⟨5, ![2, 64, 128, 16, 128]⟩
abbrev S128x128 : Shape := ⟨2, ![128, 128]⟩
abbrev S1x128x128 : Shape := ⟨3, ![1, 128, 128]⟩
abbrev S16x2x64x128x128 : Shape := ⟨5, ![16, 2, 64, 128, 128]⟩
abbrev S128x16 : Shape := ⟨2, ![128, 16]⟩
abbrev S1x1x128x16x1 : Shape := ⟨5, ![1, 1, 128, 16, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S16384x12288, .f32⟩
  | .hbm, ⟨6, _⟩ => ⟨S16384x2048, .f32⟩
  | .hbm, ⟨7, _⟩ => ⟨S2x8192x2048, .f32⟩
  | .hbm, ⟨8, _⟩ => ⟨S16384x2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x2048, .f32⟩
  | .hbm, ⟨32, _⟩ => ⟨S2x8192x2048, .f32⟩
  | .hbm, ⟨33, _⟩ => ⟨S1x1x2048, .f32⟩
  | .hbm, ⟨34, _⟩ => ⟨S2x8192x2048, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S2x64x128x16x128, .f32⟩
  | .hbm, ⟨40, _⟩ => ⟨S_, .f32⟩
  | .hbm, ⟨41, _⟩ => ⟨S128x128, .f32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S16x128x128, .f32⟩
  | .hbm, ⟨53, _⟩ => ⟨S16x128x128, .f32⟩
  | .hbm, ⟨54, _⟩ => ⟨S16x2x64x128x128, .f32⟩
  | .hbm, ⟨55, _⟩ => ⟨S2x64x128x16x128, .f32⟩
  | .hbm, ⟨56, _⟩ => ⟨S128x16, .f32⟩
  | .hbm, ⟨57, _⟩ => ⟨S1x1x128x16x1, .f32⟩
  | .hbm, ⟨58, _⟩ => ⟨S2x64x128x16x128, .f32⟩
  | .hbm, ⟨59, _⟩ => ⟨S2x64x128x16x128, .f32⟩
  | .hbm, ⟨60, _⟩ => ⟨S2x8192x2048, .f32⟩
  | .hbm, ⟨61, _⟩ => ⟨S2x8192x2048, .f32⟩
  | .hbm, ⟨62, _⟩ => ⟨S16384x2048, .f32⟩
  | .hbm, ⟨63, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_cst : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Rope.lean ====
abbrev S64 : Shape := ⟨1, ![64]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S1024x128 : Shape := ⟨2, ![1024, 128]⟩

abbrev nBuf : Space → Nat
  | .hbm => 15
  | .vmem => 5
  | .smem => 0
  | _ => 0

abbrev bufTy : (tb : Table) → Fin (tcTables nBuf tb) → BufTy
  | .hbm, ⟨0, _⟩ => ⟨S64, .f32⟩
  | .hbm, ⟨1, _⟩ => ⟨S_, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S1x128, .f32⟩
  | .hbm, ⟨13, _⟩ => ⟨S8192x128, .f32⟩
  | .hbm, ⟨14, _⟩ => ⟨S8192x128, .f32⟩
  | .local _ .vmem, ⟨0, _⟩ => ⟨S1x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_v0 : Ref sig .tc := ⟨.hbm, 0, rfl⟩
abbrev main_cst : Ref sig .tc := ⟨.hbm, 1, rfl⟩
abbrev main_v1 : Ref sig .tc := ⟨.hbm, 2, rfl⟩
abbrev main_v2 : Ref sig .tc := ⟨.hbm, 3, rfl⟩
abbrev main_cst_0 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeRefIdeal.lean ====
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩

abbrev nBuf : Space → Nat
  | .hbm => 22
  | .vmem => 0
  | .smem => 0
  | _ => 0

abbrev bufTy : (tb : Table) → Fin (tcTables nBuf tb) → BufTy
  | .hbm, ⟨0, _⟩ => ⟨S8192, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x128, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_cst : Ref sig .tc := ⟨.hbm, 2, rfl⟩
abbrev main_v2 : Ref sig .tc := ⟨.hbm, 3, rfl⟩
abbrev main_v3 : Ref sig .tc := ⟨.hbm, 4, rfl⟩
abbrev main_cst_0 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_1 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.XattnValue.lean ====
module

public import proofs.«01_k».proof.Proof.Gen.XattnIdeal.Frame
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ReadBack

@[expose] public section

/-! The value of the `Xattn` call: what the kernel leaves in its result array is what the reference returns. -/

set_option maxRecDepth 16384

noncomputable section

open Idealize.ShloMosaic Idealize.ShloMosaic.TcCoe Idealize.SL.Sem
open Idealize.ShloMosaic.Pipeline (Dat)

namespace Cert.Xattn

/-- One entry of a head: the values averaged with the softmax of the scores. -/
def att (s v : Fin 256 → EReal) : EReal :=
  ∑ x : Fin 256, Ideal.div (Ideal.exp (s x - Finset.fold max (Ideal.ofBits .f32 0xFF800000#32) s Finset.univ))
    (∑ x' : Fin 256, Ideal.exp (s x' - Finset.fold max (Ideal.ofBits .f32 0xFF800000#32) s Finset.univ)) * v x

theorem att_congr {s s' v v' : Fin 256 → EReal} (hs : ∀ x, s x = s' x) (hv : ∀ x, v x = v' x) : att s v = att s' v' := by
  rw [funext hs, funext hv]

/-- A row normalised by the root of its mean square and scaled. -/
def nrm (x g : Fin 4096 → EReal) (k : Fin 4096) : EReal :=
  x k * Ideal.rsqrt (Ideal.div (∑ l : Fin 4096, x l * x l) (Ideal.ofBits .f32 0x45800000#32) + Ideal.ofBits .f32 0x358637BD#32) * g k

/-- An entry of the queries of a row. -/
def qry (x g : Fin 4096 → EReal) (w : Fin 4096 → Fin 512 → EReal) (j : Fin 512) : EReal :=
  ∑ k : Fin 4096, nrm x g k * w k j

/-- Lane `d` of the head of lane `j`. -/
def lane (j : Fin 512) (d : Fin 128) : Fin 512 := ⟨j.val / 128 * 128 + d.val, by omega⟩

/-- The column of the keys of lane `d` of the head of lane `j`. -/
def kcol (j : Fin 512) (d : Fin 128) : Fin 1024 := ⟨j.val / 128 * 128 + d.val, by omega⟩

/-- The column of the values of lane `j`. -/
def vcol (j : Fin 512) : Fin 1024 := ⟨512 + j.val, by omega⟩

/-- An entry of the concatenated heads, from the scaled queries of a row. -/
def heads (q : Fin 512 → EReal) (kv : Fin 256 → Fin 1024 → EReal) (j : Fin 512) : EReal :=
  att (fun s => ∑ d : Fin 128, q (lane j d) * kv s (kcol j d)) (fun s => kv s (vcol j))

/-- An entry of a row with the attention's output added, the queries scaled before the scores. -/
def row (x g : Fin 4096 → EReal) (w2 : Fin 4096 → Fin 512 → EReal) (kv : Fin 256 → Fin 1024 → EReal) (w4 : Fin 512 → Fin 4096 → EReal) (C : Fin 4096) : EReal :=
  x C + ∑ j : Fin 512, heads (fun j => qry x g w2 j * Ideal.ofBits .f32 0x3DB504F3#32) kv j * w4 j C

/-- The same entry with the scores scaled instead. -/
def rowS (x g : Fin 4096 → EReal) (w2 : Fin 4096 → Fin 512 → EReal) (kv : Fin 256 → Fin 1024 → EReal) (w4 : Fin 512 → Fin 4096 → EReal) (C : Fin 4096) : EReal :=
  x C + ∑ j : Fin 512, att (fun s => (∑ d : Fin 128, qry x g w2 (lane j d) * kv s (kcol j d)) * Ideal.ofBits .f32 0x3DB504F3#32) (fun s => kv s (vcol j)) * w4 j C

/-- The scale is a real number, and not negative. -/
theorem scale_real : ∃ r : ℝ, 0 ≤ r ∧ Ideal.ofBits .f32 0x3DB504F3#32 = (r : EReal) := by
  have h : Ideal.ofBits .f32 0x3DB504F3#32 = (((11863283 / 134217728 : ℝ)) : EReal) := by
    simp [Ideal.ofBits, Ideal.ieee, -EReal.coe_mul]
    norm_num
  exact ⟨_, by norm_num, h⟩

/-- A real factor that is not negative moves out of a sum. -/
theorem sum_scale {n : ℕ} (c : EReal) (h0 : 0 ≤ c) (ht : c ≠ ⊤) (f : Fin n → EReal) : ∑ d, f d * c = (∑ d, f d) * c := by
  induction n with
  | zero => simp
  | succ n ih => rw [Fin.sum_univ_succ, Fin.sum_univ_succ, EReal.right_distrib_of_nonneg_of_ne_top h0 ht, ih]

theorem row_eq (x g : Fin 4096 → EReal) (w2 : Fin 4096 → Fin 512 → EReal) (kv : Fin 256 → Fin 1024 → EReal) (w4 : Fin 512 → Fin 4096 → EReal) (C : Fin 4096) :
    row x g w2 kv w4 C = rowS x g w2 kv w4 C := by
  obtain ⟨r, h0, hr⟩ := scale_real
  have e0 : (0 : EReal) ≤ Ideal.ofBits .f32 0x3DB504F3#32 := by rw [hr]; exact_mod_cast h0
  have et : Ideal.ofBits .f32 0x3DB504F3#32 ≠ ⊤ := by rw [hr]; exact EReal.coe_ne_top r
  unfold row rowS heads
  refine congrArg₂ (fun a b : EReal => a + b) rfl (Finset.sum_congr rfl fun j _ => congrArg₂ (fun a b : EReal => a * b) (att_congr (fun s => ?_) fun s => rfl) rfl)
  rw [← sum_scale _ e0 et]
  exact Finset.sum_congr rfl fun d _ => mul_right_comm _ _ _

end Cert.Xattn

namespace Cert.XattnRefIdeal.Value

open Cert.XattnRefIdeal Cert.XattnRefIdeal.Gen Cert.Xattn

/-- Rows normalised by the root of their mean square and scaled. -/
def norm3 (x : FVec Ideal S2x8192x4096 .f32) (g : FVec Ideal S4096 .f32) : FVec Ideal S2x8192x4096 .f32 :=
  mulf (mulf x (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf x x) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32))))))
    (broadcastInDim S2x8192x4096 ![0, 1, 2] bcast_S1x1x4096_S2x8192x4096_0_1_2 (broadcastInDim S1x1x4096 ![2] bcast_S4096_S1x1x4096_2 g))

/-- The activations by batch. -/
def x3 (a0 : FVec Ideal S16384x4096 .f32) : FVec Ideal S2x8192x4096 .f32 := shapeCast S2x8192x4096 a0 shapeCasts_S16384x4096_S2x8192x4096

/-- The queries by head. -/
def hq (a0 : FVec Ideal S16384x4096 .f32) (a1 : FVec Ideal S4096 .f32) (a2 : FVec Ideal S4096x512 .bf16) : FVec Ideal S2x8192x4x128 .f32 :=
  shapeCast S2x8192x4x128 (Host.dotGeneral dot_S2x8192x4096_S4096x512_S2x8192x512_2_0_01_1_n_n none (norm3 (x3 a0) a1) (extf .f32 a2 bitsLt_bf16_f32)) shapeCasts_S2x8192x512_S2x8192x4x128

/-- The keys by head. -/
def keys (a3 : FVec Ideal S512x1024 .bf16) : FVec Ideal S2x256x4x128 .f32 :=
  shapeCast S2x256x4x128 (extractStridedSlice S2x256x512 ![0, 0, 0] (shapeCast S2x256x1024 (extf .f32 a3 bitsLt_bf16_f32) shapeCasts_S512x1024_S2x256x1024) slices_S2x256x1024_S2x256x512_0_0_0) shapeCasts_S2x256x512_S2x256x4x128

/-- The values by head. -/
def vals (a3 : FVec Ideal S512x1024 .bf16) : FVec Ideal S2x256x4x128 .f32 :=
  shapeCast S2x256x4x128 (extractStridedSlice S2x256x512 ![0, 0, 512] (shapeCast S2x256x1024 (extf .f32 a3 bitsLt_bf16_f32) shapeCasts_S512x1024_S2x256x1024) slices_S2x256x1024_S2x256x512_0_0_512) shapeCasts_S2x256x512_S2x256x4x128

/-- The scaled scores. -/
def scores (q : FVec Ideal S2x8192x4x128 .f32) (k : FVec Ideal S2x256x4x128 .f32) : FVec Ideal S2x4x8192x256 .f32 :=
  mulf (Host.dotGeneral dot_S2x8192x4x128_S2x256x4x128_S2x4x8192x256_3_3_1_1_02_02 none q k) (broadcastInDim S2x4x8192x256 ![] bcast_S_S2x4x8192x256 (constant S_ .f32 0x3DB504F3#32))

/-- The exponentials of the scores less given maxima of the rows. -/
def expsM (s : FVec Ideal S2x4x8192x256 .f32) (M : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) M))))

/-- The exponentials of the scores less their row's maximum. -/
def exps (s : FVec Ideal S2x4x8192x256 .f32) : FVec Ideal S2x4x8192x256 .f32 :=
  expsM s (Host.reduce FloatOps.maximumf s (constant S_ .f32 0xFF800000#32) reducesTo_S2x4x8192x256_S2x4x8192_d3 h_S_)

/-- The softmax, from the exponentials. -/
def soft (e : FVec Ideal S2x4x8192x256 .f32) : FVec Ideal S2x4x8192x256 .f32 :=
  Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_)))

/-- The heads side by side. -/
def hcat (v : FVec Ideal S2x256x4x128 .f32) (p : FVec Ideal S2x4x8192x256 .f32) : FVec Ideal S2x8192x512 .f32 :=
  shapeCast S2x8192x512 (transpose S2x8192x4x128 [0, 3, 1, 2] (Host.dotGeneral dot_S2x256x4x128_S2x4x8192x256_S2x4x128x8192_1_3_3_2_02_01 none v p) transposes_S2x4x128x8192_S2x8192x4x128_0_3_1_2) shapeCasts_S2x8192x4x128_S2x8192x512

/-- A product with the output weights, added to the activations. -/
def outD (x : FVec Ideal S2x8192x4096 .f32) (h : FVec Ideal S2x8192x512 .f32) (w : FVec Ideal S512x4096 .bf16) : FVec Ideal S2x8192x4096 .f32 :=
  addf x (Host.dotGeneral dot_S2x8192x512_S512x4096_S2x8192x4096_2_0_01_1_n_n none h (extf .f32 w bitsLt_bf16_f32))

/-- The activations with the attention's output added. -/
def out3 (a0 : FVec Ideal S16384x4096 .f32) (a1 : FVec Ideal S4096 .f32) (a2 : FVec Ideal S4096x512 .bf16) (a3 : FVec Ideal S512x1024 .bf16) (a4 : FVec Ideal S512x4096 .bf16) : FVec Ideal S2x8192x4096 .f32 :=
  outD (x3 a0) (hcat (vals a3) (soft (exps (scores (hq a0 a1 a2) (keys a3))))) a4

/-- The first result of the reference. -/
def REFX (a0 : FVec Ideal S16384x4096 .f32) (a1 : FVec Ideal S4096 .f32) (a2 : FVec Ideal S4096x512 .bf16) (a3 : FVec Ideal S512x1024 .bf16) (a4 : FVec Ideal S512x4096 .bf16) : FVec Ideal S16384x4096 .f32 :=
  shapeCast S16384x4096 (out3 a0 a1 a2 a3 a4) shapeCasts_S2x8192x4096_S16384x4096

/-- The second result of the reference. -/
def REFH (a0 : FVec Ideal S16384x4096 .f32) (a1 : FVec Ideal S4096 .f32) (a2 : FVec Ideal S4096x512 .bf16) (a3 : FVec Ideal S512x1024 .bf16) (a4 : FVec Ideal S512x4096 .bf16) (a5 : FVec Ideal S4096 .f32) : FVec Ideal S16384x4096 .bf16 :=
  truncf .bf16 (shapeCast S16384x4096 (norm3 (out3 a0 a1 a2 a3 a4) a5) shapeCasts_S2x8192x4096_S16384x4096) bitsLt_bf16_f32

theorem resX_eq (m : (ℓ : Loc nD τ sig) → Buf (Elt Ideal) ℓ) (c : Dev nD) :
    res_main_v43 m c = REFX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem resH_eq (m : (ℓ : Loc nD τ sig) → Buf (Elt Ideal) ℓ) (c : Dev nD) :
    res_main_v58 m c = REFH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

theorem norm3_at (x : FVec Ideal S2x8192x4096 .f32) (g : FVec Ideal S4096 .f32) (b : Fin 2) (i : Fin 8192) (k : Fin 4096) :
    norm3 x g (ix3 b i k) = (show EReal from nrm (fun k => x (ix3 b i k)) (fun k => g (ix1 k)) k) := by
  pointwise [norm3, nrm]

theorem hq_at (a0 : FVec Ideal S16384x4096 .f32) (a1 : FVec Ideal S4096 .f32) (a2 : FVec Ideal S4096x512 .bf16) (b : Fin 2) (i : Fin 8192) (h : Fin 4) (d : Fin 128) (j : Fin 512) (hj : j.val = h.val * 128 + d.val) :
    hq a0 a1 a2 (ix4 b i h d) = (show EReal from qry (fun k => x3 a0 (ix3 b i k)) (fun k => a1 (ix1 k)) (fun k j => a2 (ix2 k j)) j) := by
  pointwise [hq, norm3_at, qry]
  exact Finset.sum_congr rfl fun k _ => congrArg (fun j => _ * (show EReal from a2 (ix2 k j))) (Fin.ext hj.symm)

theorem keys_at (a3 : FVec Ideal S512x1024 .bf16) (b : Fin 2) (s : Fin 256) (h : Fin 4) (d : Fin 128) (R : Fin 512) (C : Fin 1024) (hR : R.val = b.val * 256 + s.val) (hC : C.val = h.val * 128 + d.val) :
    keys a3 (ix4 b s h d) = (show EReal from a3 (ix2 R C)) := by
  pointwise [keys]
  exact congrArg₂ (fun R C => a3 (ix2 R C)) (Fin.ext hR.symm) (Fin.ext hC.symm)

theorem vals_at (a3 : FVec Ideal S512x1024 .bf16) (b : Fin 2) (s : Fin 256) (h : Fin 4) (d : Fin 128) (R : Fin 512) (C : Fin 1024) (hR : R.val = b.val * 256 + s.val) (hC : C.val = 512 + h.val * 128 + d.val) :
    vals a3 (ix4 b s h d) = (show EReal from a3 (ix2 R C)) := by
  pointwise [vals]
  exact congrArg₂ (fun R C => a3 (ix2 R C)) (Fin.ext hR.symm) (Fin.ext ((Nat.add_assoc _ _ _).symm.trans hC.symm))

theorem scores_at (q : FVec Ideal S2x8192x4x128 .f32) (k : FVec Ideal S2x256x4x128 .f32) (b : Fin 2) (h : Fin 4) (i : Fin 8192) (s : Fin 256) :
    scores q k (ix4 b h i s) = (∑ d : Fin 128, (show EReal from q (ix4 b i h d)) * k (ix4 b s h d)) * Ideal.ofBits .f32 0x3DB504F3#32 := by
  pointwise [scores]

theorem max_fold (b : EReal) (f : Fin 256 → EReal) : max b (Finset.fold max b f Finset.univ) = Finset.fold max b f Finset.univ := by
  exact max_eq_right ((Finset.le_fold_max _).2 (Or.inl le_rfl))

theorem maxi_at (z : FVec Ideal S2x4x8192x256 .f32) (b : Fin 2) (h : Fin 4) (i : Fin 8192) :
    Host.reduce FloatOps.maximumf z (constant S_ .f32 0xFF800000#32) reducesTo_S2x4x8192x256_S2x4x8192_d3 h_S_ (ix3 b h i)
      = Finset.fold max (Ideal.ofBits .f32 0xFF800000#32) (fun s => (show EReal from z (ix4 b h i s))) Finset.univ := by
  pointwise []

theorem expsM_at (z : FVec Ideal S2x4x8192x256 .f32) (M : FVec Ideal S2x4x8192 .f32) (b : Fin 2) (h : Fin 4) (i : Fin 8192) (s : Fin 256) :
    expsM z M (ix4 b h i s) = Ideal.exp ((show EReal from z (ix4 b h i s)) - max (Ideal.ofBits .f32 0xFF800000#32) (show EReal from M (ix3 b h i))) := by
  pointwise [expsM]

theorem exps_at (z : FVec Ideal S2x4x8192x256 .f32) (b : Fin 2) (h : Fin 4) (i : Fin 8192) (s : Fin 256) :
    exps z (ix4 b h i s) = Ideal.exp ((show EReal from z (ix4 b h i s)) - Finset.fold max (Ideal.ofBits .f32 0xFF800000#32) (fun s => (show EReal from z (ix4 b h i s))) Finset.univ) := by
  unfold exps
  rw [expsM_at, maxi_at]
  exact congrArg (fun M : EReal => Ideal.exp ((show EReal from z (ix4 b h i s)) - M)) (max_fold _ _)

theorem soft_at (z : FVec Ideal S2x4x8192x256 .f32) (b : Fin 2) (h : Fin 4) (i : Fin 8192) (s : Fin 256) :
    soft z (ix4 b h i s) = Ideal.div (show EReal from z (ix4 b h i s)) (∑ s : Fin 256, (show EReal from z (ix4 b h i s))) := by
  pointwise [soft]

theorem hcat_at (v : FVec Ideal S2x256x4x128 .f32) (p : FVec Ideal S2x4x8192x256 .f32) (b : Fin 2) (i : Fin 8192) (j : Fin 512) :
    hcat v p (ix3 b i j) = ∑ s : Fin 256, (show EReal from p (ix4 b (⟨j.val / 128, by omega⟩ : Fin 4) i s)) * v (ix4 b s (⟨j.val / 128, by omega⟩ : Fin 4) (⟨j.val % 128, by omega⟩ : Fin 128)) := by
  pointwise [hcat]
  exact Finset.sum_congr rfl fun s _ => mul_comm _ _

theorem x3_at (a0 : FVec Ideal S16384x4096 .f32) (b : Fin 2) (i : Fin 8192) (k : Fin 4096) (R : Fin 16384) (hR : R.val = b.val * 8192 + i.val) :
    x3 a0 (ix3 b i k) = (show EReal from a0 (ix2 R k)) := by
  pointwise [x3]
  exact congrArg (fun R => a0 (ix2 R k)) (Fin.ext hR.symm)

theorem outD_at (x : FVec Ideal S2x8192x4096 .f32) (h : FVec Ideal S2x8192x512 .f32) (w : FVec Ideal S512x4096 .bf16) (b : Fin 2) (i : Fin 8192) (C : Fin 4096) :
    outD x h w (ix3 b i C) = (show EReal from x (ix3 b i C)) + ∑ j : Fin 512, (show EReal from h (ix3 b i j)) * w (ix2 j C) := by
  pointwise [outD]

theorem hcat_att (v : FVec Ideal S2x256x4x128 .f32) (z : FVec Ideal S2x4x8192x256 .f32) (b : Fin 2) (i : Fin 8192) (j : Fin 512) :
    hcat v (soft (exps z)) (ix3 b i j) = (show EReal from att (fun s => z (ix4 b (⟨j.val / 128, by omega⟩ : Fin 4) i s)) (fun s => v (ix4 b s (⟨j.val / 128, by omega⟩ : Fin 4) (⟨j.val % 128, by omega⟩ : Fin 128)))) := by
  rw [hcat_at]
  refine Finset.sum_congr rfl fun s _ => ?_
  rw [soft_at]
  simp only [exps_at]

/-- A row of the activations with the attention's output added. -/
def rowR (a0 : FVec Ideal S16384x4096 .f32) (a1 : FVec Ideal S4096 .f32) (a2 : FVec Ideal S4096x512 .bf16) (a3 : FVec Ideal S512x1024 .bf16) (a4 : FVec Ideal S512x4096 .bf16) (R : Fin 16384) : Fin 4096 → EReal :=
  rowS (fun k => a0 (ix2 R k)) (fun k => a1 (ix1 k)) (fun k j => a2 (ix2 k j)) (fun s j => a3 (ix2 (⟨R.val / 8192 * 256 + s.val, by omega⟩ : Fin 512) j)) (fun j C => a4 (ix2 j C))

theorem out3_at (a0 : FVec Ideal S16384x4096 .f32) (a1 : FVec Ideal S4096 .f32) (a2 : FVec Ideal S4096x512 .bf16) (a3 : FVec Ideal S512x1024 .bf16) (a4 : FVec Ideal S512x4096 .bf16)
    (b : Fin 2) (i : Fin 8192) (C : Fin 4096) (R : Fin 16384) (hR : R.val = b.val * 8192 + i.val) :
    out3 a0 a1 a2 a3 a4 (ix3 b i C) = (show EReal from rowR a0 a1 a2 a3 a4 R C) := by
  have hb : R.val / 8192 = b.val := by omega
  unfold out3 rowR rowS
  rw [outD_at]
  refine congrArg₂ (fun a b : EReal => a + b) (x3_at a0 b i C R hR) (Finset.sum_congr rfl fun j _ => congrArg₂ (fun a b : EReal => a * b) ?_ rfl)
  rw [hcat_att]
  refine att_congr (fun s => ?_) (fun s => ?_)
  · rw [scores_at]
    refine congrArg (fun a : EReal => a * Ideal.ofBits .f32 0x3DB504F3#32) (Finset.sum_congr rfl fun d _ => congrArg₂ (fun a b : EReal => a * b) ?_ ?_)
    · refine (hq_at a0 a1 a2 b i (⟨j.val / 128, by omega⟩ : Fin 4) d (lane j d) rfl).trans ?_
      exact congrArg (fun x : Fin 4096 → EReal => qry x (fun k => a1 (ix1 k)) (fun k j => a2 (ix2 k j)) (lane j d)) (funext fun k => x3_at a0 b i k R hR)
    · exact keys_at a3 b s (⟨j.val / 128, by omega⟩ : Fin 4) d (⟨R.val / 8192 * 256 + s.val, by omega⟩ : Fin 512) (kcol j d) (congrArg (fun n => n * 256 + s.val) hb) rfl
  · have hj : 512 + j.val = 512 + j.val / 128 * 128 + j.val % 128 := by omega
    exact vals_at a3 b s (⟨j.val / 128, by omega⟩ : Fin 4) (⟨j.val % 128, by omega⟩ : Fin 128) (⟨R.val / 8192 * 256 + s.val, by omega⟩ : Fin 512) (vcol j) (congrArg (fun n => n * 256 + s.val) hb) hj

theorem REFX_at (a0 : FVec Ideal S16384x4096 .f32) (a1 : FVec Ideal S4096 .f32) (a2 : FVec Ideal S4096x512 .bf16) (a3 : FVec Ideal S512x1024 .bf16) (a4 : FVec Ideal S512x4096 .bf16)
    (R : Fin 16384) (C : Fin 4096) :
    REFX a0 a1 a2 a3 a4 (ix2 R C) = (show EReal from rowR a0 a1 a2 a3 a4 R C) := by
  pointwise [REFX]
  exact out3_at a0 a1 a2 a3 a4 _ _ C R (by dsimp only; omega)

theorem REFH_at (a0 : FVec Ideal S16384x4096 .f32) (a1 : FVec Ideal S4096 .f32) (a2 : FVec Ideal S4096x512 .bf16) (a3 : FVec Ideal S512x1024 .bf16) (a4 : FVec Ideal S512x4096 .bf16) (a5 : FVec Ideal S4096 .f32)
    (R : Fin 16384) (C : Fin 4096) :
    REFH a0 a1 a2 a3 a4 a5 (ix2 R C) = (show EReal from nrm (rowR a0 a1 a2 a3 a4 R) (fun k => a5 (ix1 k)) C) := by
  pointwise [REFH]
  refine (norm3_at _ a5 _ _ C).trans ?_
  exact congrArg (fun x : Fin 4096 → EReal => nrm x (fun k => a5 (ix1 k)) C) (funext fun k => out3_at a0 a1 a2 a3 a4 _ _ k R (by dsimp only; omega))

end Cert.XattnRefIdeal.Value

namespace Cert.XattnIdeal.Value

open Cert.XattnIdeal Cert.XattnIdeal.Gen Cert.Xattn

theorem pay4 (x : Vec Ideal S256x4096 .f32) (g : Vec Ideal S1x4096 .f32) (w : Vec Ideal S4096x512 .bf16) (r : Fin 256) (j : Fin 512) :
    k0_pay4 (F := Ideal) x g w (ix2 r j) = (show EReal from qry (fun k => x (ix2 r k)) (fun k => g (ix2 (0 : Fin 1) k)) (fun k j => w (ix2 k j)) j * Ideal.ofBits .f32 0x3DB504F3#32) := by
  open_payloads
  pointwise [qry, nrm]

theorem pay2 (x : Vec Ideal S256x4096 .f32) (g : Vec Ideal S1x4096 .f32) (r : Fin 256) (C : Fin 4096) :
    k0_pay2 (F := Ideal) x g (ix2 r C) = (show EReal from nrm (fun k => x (ix2 r k)) (fun k => g (ix2 (0 : Fin 1) k)) C) := by
  open_payloads
  pointwise [nrm]

theorem pay1 (x : Vec Ideal S256x4096 .f32) (g : Vec Ideal S1x4096 .f32) :
    k0_pay1 (F := Ideal) (k0_pay17 x) (k0_pay18 g) (k0_pay19 x) = k0_pay2 x g := rfl

theorem pay5 (x : Vec Ideal S256x4096 .f32) (g : Vec Ideal S1x4096 .f32) (w : Vec Ideal S4096x512 .bf16) :
    k0_pay5 (F := Ideal) (k0_pay3 x g) w (constant S256x512 .f32 0x00000000#32) = k0_pay4 x g w := rfl

theorem pay12 (q : Vec Ideal S256x512 .bf16) (k v : Vec Ideal S256x128 .bf16) :
    k0_pay12 (F := Ideal) v (k0_pay10 q k) (k0_pay11 q k) = k0_pay6 q k v := rfl

theorem pay13 (q : Vec Ideal S256x512 .bf16) (k v : Vec Ideal S256x128 .bf16) :
    k0_pay13 (F := Ideal) q k v = k0_pay7 q k v := rfl

theorem pay16 (q : Vec Ideal S256x512 .bf16) (h0 h1 k2 v2 k3 v3 : Vec Ideal S256x128 .bf16) (x : Vec Ideal S256x4096 .f32) (w : Vec Ideal S512x4096 .bf16) :
    k0_pay16 (F := Ideal) q h0 h1 (k0_pay14 q k2 v2) k3 v3 x w = k0_pay15 (k0_pay9 q h0 h1 k2 v2 (k0_pay8 q) k3 v3) x w := rfl

/-- The four heads of 256 rows, side by side. -/
theorem pay9 (q : Vec Ideal S256x512 .bf16) (kv : Vec Ideal S256x1024 .bf16) (r : Fin 256) (j : Fin 512) :
    k0_pay9 (F := Ideal) q (k0_pay6 q (View.ld (Val := Elt Ideal) (e' := .bf16) kv (Rect.unit ![0, 0] ![256, 128] inb_S256x1024_S256x128_0_0)) (View.ld (Val := Elt Ideal) (e' := .bf16) kv (Rect.unit ![0, 512] ![256, 128] inb_S256x1024_S256x128_0_512))) (k0_pay7 q (View.ld (Val := Elt Ideal) (e' := .bf16) kv (Rect.unit ![0, 128] ![256, 128] inb_S256x1024_S256x128_0_128)) (View.ld (Val := Elt Ideal) (e' := .bf16) kv (Rect.unit ![0, 640] ![256, 128] inb_S256x1024_S256x128_0_640))) (View.ld (Val := Elt Ideal) (e' := .bf16) kv (Rect.unit ![0, 256] ![256, 128] inb_S256x1024_S256x128_0_256)) (View.ld (Val := Elt Ideal) (e' := .bf16) kv (Rect.unit ![0, 768] ![256, 128] inb_S256x1024_S256x128_0_768)) (k0_pay8 q) (View.ld (Val := Elt Ideal) (e' := .bf16) kv (Rect.unit ![0, 384] ![256, 128] inb_S256x1024_S256x128_0_384)) (View.ld (Val := Elt Ideal) (e' := .bf16) kv (Rect.unit ![0, 896] ![256, 128] inb_S256x1024_S256x128_0_896)) (ix2 r j)
      = (show EReal from heads (fun l => q (ix2 r l)) (fun s j => kv (ix2 s j)) j) := by
  open_payloads
  pointwise []
  have hj := j.isLt
  split <;> [skip; split <;> [skip; split]]
  all_goals
    refine att_congr (fun s => Finset.sum_congr rfl fun d _ => congrArg₂ (fun a b : EReal => a * b) ?_ ?_) (fun s => ?_)
    · blk_point [lane] <;> omega
    · blk_point [kcol] <;> omega
    · blk_point [vcol] <;> omega

theorem pay15 (x : Vec Ideal S256x4096 .f32) (q : Vec Ideal S256x512 .bf16) (w : Vec Ideal S512x4096 .bf16) (r : Fin 256) (C : Fin 4096) :
    k0_pay15 (F := Ideal) q x w (ix2 r C) = (show EReal from x (ix2 r C)) + ∑ j : Fin 512, (show EReal from q (ix2 r j)) * w (ix2 j C) := by
  open_payloads
  pointwise []

/-- 256 rows with the attention's output added. -/
theorem chain (x : Vec Ideal S256x4096 .f32) (g : Vec Ideal S1x4096 .f32) (w2 : Vec Ideal S4096x512 .bf16) (kv : Vec Ideal S256x1024 .bf16) (w : Vec Ideal S512x4096 .bf16) (r : Fin 256) (C : Fin 4096) :
    k0_pay15 (F := Ideal) (k0_pay9 (F := Ideal) (k0_pay4 x g w2) (k0_pay6 (k0_pay4 x g w2) (View.ld (Val := Elt Ideal) (e' := .bf16) kv (Rect.unit ![0, 0] ![256, 128] inb_S256x1024_S256x128_0_0)) (View.ld (Val := Elt Ideal) (e' := .bf16) kv (Rect.unit ![0, 512] ![256, 128] inb_S256x1024_S256x128_0_512))) (k0_pay7 (k0_pay4 x g w2) (View.ld (Val := Elt Ideal) (e' := .bf16) kv (Rect.unit ![0, 128] ![256, 128] inb_S256x1024_S256x128_0_128)) (View.ld (Val := Elt Ideal) (e' := .bf16) kv (Rect.unit ![0, 640] ![256, 128] inb_S256x1024_S256x128_0_640))) (View.ld (Val := Elt Ideal) (e' := .bf16) kv (Rect.unit ![0, 256] ![256, 128] inb_S256x1024_S256x128_0_256)) (View.ld (Val := Elt Ideal) (e' := .bf16) kv (Rect.unit ![0, 768] ![256, 128] inb_S256x1024_S256x128_0_768)) (k0_pay8 (k0_pay4 x g w2)) (View.ld (Val := Elt Ideal) (e' := .bf16) kv (Rect.unit ![0, 384] ![256, 128] inb_S256x1024_S256x128_0_384)) (View.ld (Val := Elt Ideal) (e' := .bf16) kv (Rect.unit ![0, 896] ![256, 128] inb_S256x1024_S256x128_0_896))) x w (ix2 r C)
      = (show EReal from row (fun k => x (ix2 r k)) (fun k => g (ix2 (0 : Fin 1) k)) (fun k j => w2 (ix2 k j)) (fun s j => kv (ix2 s j)) (fun j C => w (ix2 j C)) C) := by
  rw [pay15]
  refine congrArg₂ (fun a b : EReal => a + b) rfl (Finset.sum_congr rfl fun j _ => congrArg₂ (fun a b : EReal => a * b) ?_ rfl)
  rw [pay9]
  simp only [pay4]

/-- The block the kernel leaves in its first result. -/
def res (x0 : Vec Ideal S512x4096 .f32) (x1 : Vec Ideal S1x4096 .f32) (x2 : Vec Ideal S4096x512 .bf16) (x3 : Vec Ideal S256x1024 .bf16) (x4 : Vec Ideal S512x4096 .bf16) : Vec Ideal S512x4096 .f32 :=
  fun y => row (fun k => x0 (ix2 (y 0) k)) (fun k => x1 (ix2 (0 : Fin 1) k)) (fun k j => x2 (ix2 k j)) (fun s j => x3 (ix2 s j)) (fun j C => x4 (ix2 j C)) (y 1)

/-- The block the kernel leaves in its second result. -/
def hres (x0 : Vec Ideal S512x4096 .f32) (x1 : Vec Ideal S1x4096 .f32) (x2 : Vec Ideal S4096x512 .bf16) (x3 : Vec Ideal S256x1024 .bf16) (x4 : Vec Ideal S512x4096 .bf16) (x5 : Vec Ideal S1x4096 .f32) : Vec Ideal S512x4096 .bf16 :=
  fun y => nrm (row (fun k => x0 (ix2 (y 0) k)) (fun k => x1 (ix2 (0 : Fin 1) k)) (fun k j => x2 (ix2 k j)) (fun s j => x3 (ix2 s j)) (fun j C => x4 (ix2 j C))) (fun k => x5 (ix2 (0 : Fin 1) k)) (y 1)

theorem ld_lo (x0 : Vec Ideal S512x4096 .f32) (r : Fin 256) (a : Fin 512) (h : a.val = r.val) (k : Fin 4096) :
    View.ld (Val := Elt Ideal) (e' := .f32) x0 (Rect.unit ![0, 0] ![256, 4096] inb_S512x4096_S256x4096_0_0) (ix2 r k) = x0 (ix2 a k) := by
  pointwise []
  refine congrArg x0 ?_
  blk_ext! <;> omega

theorem ld_hi (x0 : Vec Ideal S512x4096 .f32) (r : Fin 256) (a : Fin 512) (h : a.val = 256 + r.val) (k : Fin 4096) :
    View.ld (Val := Elt Ideal) (e' := .f32) x0 (Rect.unit ![256, 0] ![256, 4096] inb_S512x4096_S256x4096_256_0) (ix2 r k) = x0 (ix2 a k) := by
  pointwise []
  refine congrArg x0 ?_
  blk_ext! <;> omega

theorem outX (c : Dev nD) (t : Fin cfg0.N)
    (x0 : Vec Ideal S512x4096 .f32) (x1 : Vec Ideal S1x4096 .f32) (x2 : Vec Ideal S4096x512 .bf16) (x3 : Vec Ideal S256x1024 .bf16) (x4 : Vec Ideal S512x4096 .bf16) (x5 : Vec Ideal S1x4096 .f32) (y : S512x4096.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 y
      = res x0 x1 x2 x3 x4 y := by
  frame_out
  simp only [pay5, pay12, pay13, pay16]
  canon_tiles x h
  all_goals
    obtain ⟨r, C, rfl⟩ : ∃ (r : Fin 256) (C : Fin 4096), x = ix2 r C := ⟨x 0, x 1, eq_ix2 (n0 := 256) (n1 := 4096) x⟩
    rw [chain]
    obtain ⟨a, b, rfl⟩ : ∃ (a : Fin 512) (b : Fin 4096), y = ix2 a b := ⟨y 0, y 1, eq_ix2 (n0 := 512) (n1 := 4096) y⟩
    obtain rfl : b = C := Fin.ext h1
    refine congrArg (fun (f : Fin 4096 → EReal) => row f (fun k => x1 (ix2 (0 : Fin 1) k)) (fun k j => x2 (ix2 k j)) (fun s j => x3 (ix2 s j)) (fun j C => x4 (ix2 j C)) b) (funext fun k => ?_)
    first
      | exact ld_lo x0 r a h0 k
      | exact ld_hi x0 r a h0 k

theorem canon_at (r : Rect S512x4096) (w : Vec Ideal r.shape .f32) (L : List (View.Piece (Elt Ideal) S512x4096 .f32)) (x : r.shape.Idx) :
    View.canon (Val := Elt Ideal) (s := S512x4096) (e := .f32) (⟨r, w⟩ :: L) (r.idx x) = w x := View.canon_cons_emb r w L x

theorem outH (c : Dev nD) (t : Fin cfg0.N)
    (x0 : Vec Ideal S512x4096 .f32) (x1 : Vec Ideal S1x4096 .f32) (x2 : Vec Ideal S4096x512 .bf16) (x3 : Vec Ideal S256x1024 .bf16) (x4 : Vec Ideal S512x4096 .bf16) (x5 : Vec Ideal S1x4096 .f32) (y : S512x4096.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 y
      = hres x0 x1 x2 x3 x4 x5 y := by
  frame_open
  simp (disch := decide) only [↓ View.readCov_skip]
  frame_out
  simp only [View.readCov_eq_canon', pay5, pay12, pay13, pay16, canon_at, pay1]
  canon_tiles x h
  all_goals
    obtain ⟨r, C, rfl⟩ : ∃ (r : Fin 256) (C : Fin 4096), x = ix2 r C := ⟨x 0, x 1, eq_ix2 (n0 := 256) (n1 := 4096) x⟩
    rw [pay2]
    simp only [chain]
    obtain ⟨a, b, rfl⟩ : ∃ (a : Fin 512) (b : Fin 4096), y = ix2 a b := ⟨y 0, y 1, eq_ix2 (n0 := 512) (n1 := 4096) y⟩
    obtain rfl : b = C := Fin.ext h1
    refine congrArg (fun (f : Fin 4096 → EReal) => nrm (row f (fun k => x1 (ix2 (0 : Fin 1) k)) (fun k j => x2 (ix2 k j)) (fun s j => x3 (ix2 s j)) (fun j C => x4 (ix2 j C))) (fun k => x5 (ix2 (0 : Fin 1) k)) b) (funext fun k => ?_)
    first
      | exact ld_lo x0 r a h0 k
      | exact ld_hi x0 r a h0 k

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val / 16, 0]
    ∧ win0_4.index t = ![0, 0]
    ∧ win0_5.index t = ![0, 0]
    ∧ win0_6.index t = ![t.val, 0]
    ∧ win0_7.index t = ![t.val, 0] :=
  (by decide +kernel : ∀ t : Fin grid0.N, _)

theorem tab1 (c : Dev nD) (k : Fin 4096) : V m c main_v0 (ix2 (0 : Fin 1) k) = (m ((c : Thread nD τ).loc main_arg1)) (ix1 k) := by
  entry_read
  pointwise []

theorem tab5 (c : Dev nD) (k : Fin 4096) : V m c main_v1 (ix2 (0 : Fin 1) k) = (m ((c : Thread nD τ).loc main_arg5)) (ix1 k) := by
  entry_read
  pointwise []

theorem blk0 (c : Dev nD) (t : Fin cfg0.N) (r : Fin 512) (k : Fin 4096) (R : Fin 16384) (hR : R.val = 512 * t.val + r.val) :
    (iblk m c 0 t : Vec Ideal S512x4096 .f32) (ix2 r k) = (m ((c : Thread nD τ).loc main_arg0)) (ix2 R k) := by
  blk_point [iblk, V, idx_val t]

theorem blk1 (c : Dev nD) (t : Fin cfg0.N) (k : Fin 4096) :
    (iblk m c 1 t : Vec Ideal S1x4096 .f32) (ix2 (0 : Fin 1) k) = (m ((c : Thread nD τ).loc main_arg1)) (ix1 k) := by
  refine Eq.trans ?_ (tab1 m c k)
  blk_point [iblk, idx_val t]

theorem blk2 (c : Dev nD) (t : Fin cfg0.N) (k : Fin 4096) (j : Fin 512) :
    (iblk m c 2 t : Vec Ideal S4096x512 .bf16) (ix2 k j) = (m ((c : Thread nD τ).loc main_arg2)) (ix2 k j) := by
  blk_point [iblk, V, idx_val t]

theorem blk3 (c : Dev nD) (t : Fin cfg0.N) (s : Fin 256) (j : Fin 1024) (R : Fin 512) (hR : R.val = t.val / 16 * 256 + s.val) :
    (iblk m c 3 t : Vec Ideal S256x1024 .bf16) (ix2 s j) = (m ((c : Thread nD τ).loc main_arg3)) (ix2 R j) := by
  blk_point [iblk, V, idx_val t]

theorem blk4 (c : Dev nD) (t : Fin cfg0.N) (j : Fin 512) (C : Fin 4096) :
    (iblk m c 4 t : Vec Ideal S512x4096 .bf16) (ix2 j C) = (m ((c : Thread nD τ).loc main_arg4)) (ix2 j C) := by
  blk_point [iblk, V, idx_val t]

theorem blk5 (c : Dev nD) (t : Fin cfg0.N) (k : Fin 4096) :
    (iblk m c 5 t : Vec Ideal S1x4096 .f32) (ix2 (0 : Fin 1) k) = (m ((c : Thread nD τ).loc main_arg5)) (ix1 k) := by
  refine Eq.trans ?_ (tab5 m c k)
  blk_point [iblk, idx_val t]

/-- A row of the kernel's block is the reference's row. -/
theorem row_blk (c : Dev nD) (t : Fin cfg0.N) (r : Fin 512) (R : Fin 16384) (hR : R.val = 512 * t.val + r.val) :
    row (fun k => (iblk m c 0 t : Vec Ideal S512x4096 .f32) (ix2 r k)) (fun k => (iblk m c 1 t : Vec Ideal S1x4096 .f32) (ix2 (0 : Fin 1) k)) (fun k j => (iblk m c 2 t : Vec Ideal S4096x512 .bf16) (ix2 k j)) (fun s j => (iblk m c 3 t : Vec Ideal S256x1024 .bf16) (ix2 s j)) (fun j C => (iblk m c 4 t : Vec Ideal S512x4096 .bf16) (ix2 j C))
      = Cert.XattnRefIdeal.Value.rowR (m ((c : Thread nD τ).loc main_arg0)) (m ((c : Thread nD τ).loc main_arg1)) (m ((c : Thread nD τ).loc main_arg2)) (m ((c : Thread nD τ).loc main_arg3)) (m ((c : Thread nD τ).loc main_arg4)) R := by
  funext C
  rw [row_eq]
  have ht : t.val / 16 = R.val / 8192 := by have := r.isLt; omega
  have e0 : (fun k => (iblk m c 0 t : Vec Ideal S512x4096 .f32) (ix2 r k)) = fun k => (m ((c : Thread nD τ).loc main_arg0)) (ix2 R k) := funext fun k => blk0 m c t r k R hR
  have e1 : (fun k => (iblk m c 1 t : Vec Ideal S1x4096 .f32) (ix2 (0 : Fin 1) k)) = fun k => (m ((c : Thread nD τ).loc main_arg1)) (ix1 k) := funext fun k => blk1 m c t k
  have e2 : (fun k j => (iblk m c 2 t : Vec Ideal S4096x512 .bf16) (ix2 k j)) = fun k j => (m ((c : Thread nD τ).loc main_arg2)) (ix2 k j) := funext fun k => funext fun j => blk2 m c t k j
  have e3 : (fun s j => (iblk m c 3 t : Vec Ideal S256x1024 .bf16) (ix2 s j)) = fun s j => (m ((c : Thread nD τ).loc main_arg3)) (ix2 (⟨R.val / 8192 * 256 + s.val, by have := R.isLt; have := s.isLt; omega⟩ : Fin 512) j) :=
    funext fun s => funext fun j => blk3 m c t s j _ (congrArg (fun n => n * 256 + s.val) ht.symm)
  have e4 : (fun j C => (iblk m c 4 t : Vec Ideal S512x4096 .bf16) (ix2 j C)) = fun j C => (m ((c : Thread nD τ).loc main_arg4)) (ix2 j C) := funext fun j => funext fun C => blk4 m c t j C
  rw [e0, e1, e2, e3, e4]
  rfl

theorem pointX (c : Dev nD) (t : Fin cfg0.N) (r : Fin 512) (C : Fin 4096) (R : Fin 16384) (hR : R.val = 512 * t.val + r.val) :
    ((outsAt0 m c t).1 : Vec Ideal S512x4096 .f32) (ix2 r C) = Cert.XattnRefIdeal.Value.REFX (m ((c : Thread nD τ).loc main_arg0)) (m ((c : Thread nD τ).loc main_arg1)) (m ((c : Thread nD τ).loc main_arg2)) (m ((c : Thread nD τ).loc main_arg3)) (m ((c : Thread nD τ).loc main_arg4)) (ix2 R C) := by
  unfold outsAt0
  dsimp only
  rw [outX]
  refine Eq.trans ?_ (Cert.XattnRefIdeal.Value.REFX_at _ _ _ _ _ R C).symm
  exact congrFun (row_blk m c t r R hR) C

theorem pointH (c : Dev nD) (t : Fin cfg0.N) (r : Fin 512) (C : Fin 4096) (R : Fin 16384) (hR : R.val = 512 * t.val + r.val) :
    ((outsAt0 m c t).2 : Vec Ideal S512x4096 .bf16) (ix2 r C) = Cert.XattnRefIdeal.Value.REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R C) := by
  unfold outsAt0
  dsimp only
  rw [outH]
  refine Eq.trans ?_ (Cert.XattnRefIdeal.Value.REFH_at _ _ _ _ _ _ R C).symm
  exact congrArg₂ (fun (x g : Fin 4096 → EReal) => nrm x g C) (row_blk m c t r R hR) (funext fun k => blk5 m c t k)

theorem final_6 (c : Dev nD) : (dats m 0 c).arrAt 6 (cfgs 0).N = Cert.XattnRefIdeal.Value.REFX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  obtain ⟨r, k, rfl⟩ : ∃ (r : Fin 512) (k : Fin 4096), y = ix2 r k := ⟨y 0, y 1, eq_ix2 (n0 := 512) (n1 := 4096) y⟩
  have hr := r.isLt
  have hk := k.isLt
  have ht : t.val < 32 := t.isLt
  refine (pointX m c t r k ⟨512 * t.val + r.val, by omega⟩ rfl).trans ?_
  generalize Cert.XattnRefIdeal.Value.REFX _ _ _ _ _ = f
  refine congrArg f ?_
  blk_point [idx_val t]

theorem final_7 (c : Dev nD) : (dats m 0 c).arrAt 7 (cfgs 0).N = Cert.XattnRefIdeal.Value.REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  obtain ⟨r, k, rfl⟩ : ∃ (r : Fin 512) (k : Fin 4096), y = ix2 r k := ⟨y 0, y 1, eq_ix2 (n0 := 512) (n1 := 4096) y⟩
  have hr := r.isLt
  have hk := k.isLt
  have ht : t.val < 32 := t.isLt
  refine (pointH m c t r k ⟨512 * t.val + r.val, by omega⟩ rfl).trans ?_
  generalize Cert.XattnRefIdeal.Value.REFH _ _ _ _ _ _ = f
  refine congrArg f ?_
  blk_point [idx_val t]

end Cert.XattnIdeal.Value

end
-- ==== Proof.MemkvValue.lean ====
module

public import proofs.«01_k».proof.Proof.Gen.MemkvIdeal.Frame
public import proofs.«01_k».proof.Proof.Gen.MemkvIdeal.Value
public import proofs.«01_k».proof.Proof.Gen.MemkvRefIdeal.Run
public import Idealize.ShloMosaic.Lib.Pipeline.ValueKit

@[expose] public section

/-! The value of the `Memkv` call: what the kernel leaves in its result array is what the reference returns. -/

set_option maxRecDepth 16384

noncomputable section

open Idealize.ShloMosaic Idealize.ShloMosaic.TcCoe Idealize.SL.Sem
open Idealize.ShloMosaic.Pipeline (Dat)

namespace Cert.MemkvRefIdeal.Value

open Cert.MemkvRefIdeal Cert.MemkvRefIdeal.Gen

/-- What the reference returns, as one term over its arguments. -/
def REF (a0 : FVec Ideal S512x4096 .f32) (a1 : FVec Ideal S4096 .f32) (a2 : FVec Ideal S4096x1024 .bf16) : FVec Ideal S512x1024 .bf16 :=
  truncf .bf16 (Host.dotGeneral dot_S512x4096_S4096x1024_S512x1024_1_0_0_1_n_n none (mulf (mulf a0 (broadcastInDim S512x4096 ![0, 1] bcast_S512x1_S512x4096_0_1 (Host.rsqrt (addf (Host.divf (broadcastInDim S512x1 ![0] bcast_S512_S512x1_0 (Host.reduceAdd (mulf a0 a0) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 a1))) (extf .f32 a2 bitsLt_bf16_f32)) bitsLt_bf16_f32

end Cert.MemkvRefIdeal.Value

namespace Cert.MemkvIdeal.Value

open Cert.MemkvIdeal Cert.MemkvIdeal.Gen
open Cert.MemkvRefIdeal.Value (REF)

variable (m : (ℓ : Loc nD τ sig) → Buf (Elt Ideal) ℓ)

/-- The block of every window at a grid point. -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

-- window 1's array `main_v0` is made by @main's host operations before the region (= shapeCast _ main_arg1 shapeCasts_S4096_S1x4096): read `V m c main_v0` with `entry_read`, never by a rewriting lemma

/-- POINT: what the body stores at block index `y` of point `t` is the reference at the array index `y` sits at. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc
        main_arg2)) (((cfg0.win 3).blk t).view.emb y) := by
  pointwise [k0_pay1, REF]; blk_point [iblk, V, idx_val t]

/-- BRIDGE: the result array after the run (complete: the blocks tile the array, decided). -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.MemkvIdeal.Value

end
-- ==== Proof.MergeValue.lean ====
module

public import proofs.«01_k».proof.Proof.Gen.MergeIdeal.Frame
public import proofs.«01_k».proof.Proof.Gen.MergeIdeal.Value
public import proofs.«01_k».proof.Proof.Gen.MergeRefIdeal.Run
public import Idealize.ShloMosaic.Lib.Pipeline.ValueKit

@[expose] public section

/-! The value of the `Merge` call: what the kernel leaves in its result array is what the reference returns. -/

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- What the reference returns, as one term over its arguments. -/
def REF (a0 : FVec Ideal S16384x2048 .bf16) (a1 : FVec Ideal S16384x2048 .bf16) (a2 : FVec Ideal S2048x4096 .bf16) (a3 : FVec Ideal S2048x4096 .bf16) (a4 : FVec Ideal S16384x12288 .bf16) : FVec Ideal S16384x4096 .bf16 :=
  truncf .bf16 (addf (mulf (extractStridedSlice S16384x4096 ![0, 4096] (extf .f32 a4 bitsLt_bf16_f32) slices_S16384x12288_S16384x4096_0_4096) (Host.dotGeneral dot_S16384x2048_S2048x4096_S16384x4096_1_0_0_1_n_n none (extf .f32 a0 bitsLt_bf16_f32) (extf .f32 a2 bitsLt_bf16_f32))) (mulf (extractStridedSlice S16384x4096 ![0, 8192] (extf .f32 a4 bitsLt_bf16_f32) slices_S16384x12288_S16384x4096_0_8192) (Host.dotGeneral dot_S16384x2048_S2048x4096_S16384x4096_1_0_0_1_n_n none (extf .f32 a1 bitsLt_bf16_f32) (extf .f32 a3 bitsLt_bf16_f32)))) bitsLt_bf16_f32

end Cert.MergeRefIdeal.Value

namespace Cert.MergeIdeal.Value

open Cert.MergeIdeal Cert.MergeIdeal.Gen
open Cert.MergeRefIdeal.Value (REF)

variable (m : (ℓ : Loc nD τ sig) → Buf (Elt Ideal) ℓ)

/-- The block of every window at a grid point. -/
theorem idx_val : ∀ t : Fin cfg0.N, win0_0.index t = ![t.val / 4, 0]
    ∧ win0_1.index t = ![t.val / 4, 0]
    ∧ win0_2.index t = ![0, t.val % 4]
    ∧ win0_3.index t = ![0, t.val % 4]
    ∧ win0_4.index t = ![t.val / 4, 4 + (t.val % 4)]
    ∧ win0_5.index t = ![t.val / 4, 8 + (t.val % 4)]
    ∧ win0_6.index t = ![t.val / 4, t.val % 4] :=
  (by decide +kernel : ∀ t : Fin grid0.N, _)

set_option maxHeartbeats 1600000 in
/-- POINT over the 4 tile STORES (value_cases.md §(c) store side): one goal per piece (`x` the piece's own index, `h·` its offsets). -/
theorem point (c : Dev nD) (t : Fin cfg0.N) (y) :
    out0_6 (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 6).blk
        t).view.emb y) := by
  canon_tiles x h; all_goals (open_payloads; pointwise [REF]; blk_point [iblk, V, idx_val t])

theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point m c t y

end Cert.MergeIdeal.Value

end
-- ==== Proof.OutprojValue.lean ====
module

public import proofs.«01_k».proof.Proof.Gen.OutprojIdeal.Frame
public import proofs.«01_k».proof.Proof.Gen.OutprojIdeal.Value
public import proofs.«01_k».proof.Proof.Gen.OutprojRefIdeal.Run
public import Idealize.ShloMosaic.Lib.Pipeline.ValueKit

@[expose] public section

/-! The value of the `Outproj` call: what the kernel leaves in its result array is what the reference returns. -/

set_option maxRecDepth 16384

noncomputable section

open Idealize.ShloMosaic Idealize.ShloMosaic.TcCoe Idealize.SL.Sem
open Idealize.ShloMosaic.Pipeline (Dat)

namespace Cert.OutprojRefIdeal.Value

open Cert.OutprojRefIdeal Cert.OutprojRefIdeal.Gen

/-- What the reference returns, as one term over its arguments. -/
def REF (a0 : FVec Ideal S16384x4096 .bf16) (a1 : FVec Ideal S4096x4096 .bf16) (a2 : FVec Ideal S16384x4096 .f32) : FVec Ideal S16384x4096 .f32 :=
  addf a2 (Host.dotGeneral dot_S16384x4096_S4096x4096_S16384x4096_1_0_0_1_n_n none (extf .f32 a0 bitsLt_bf16_f32) (extf .f32 a1 bitsLt_bf16_f32))

end Cert.OutprojRefIdeal.Value

namespace Cert.OutprojIdeal.Value

open Cert.OutprojIdeal Cert.OutprojIdeal.Gen
open Cert.OutprojRefIdeal.Value (REF)

variable (m : (ℓ : Loc nD τ sig) → Buf (Elt Ideal) ℓ)

/-- The block of every window at a grid point. -/
theorem idx_val : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

/-- POINT: what the body stores at block index `y` of point `t` is the reference at the array index `y` sits at. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc
        main_arg2)) (((cfg0.win 3).blk t).view.emb y) := by
  pointwise [k0_pay1, REF]; blk_point [iblk, V, idx_val t]

/-- BRIDGE: the result array after the run (complete: the blocks tile the array, decided). -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.OutprojIdeal.Value

end
-- ==== Proof.Scalars.lean ====
module

public import Idealize.ShloMosaic.PureOps.Ideal

public section

/-! Facts about single numbers: the constants of the programs and the activations' two forms. -/

noncomputable section

namespace Cert.Scalars

open Idealize.ShloMosaic

theorem half : Ideal.ofBits .f32 0x3F000000#32 = ((1 / 2 : ℝ) : EReal) := by
  simp [Ideal.ofBits, Ideal.ieee, -EReal.coe_mul]; norm_num

theorem one_f32 : Ideal.ofBits .f32 0x3F800000#32 = 1 := by
  simp [Ideal.ofBits, Ideal.ieee, -EReal.coe_mul]; norm_num

theorem top_bf16 : Ideal.ofBits .bf16 0x7F80#16 = ⊤ := by
  simp [Ideal.ofBits, Ideal.ieee]

theorem zero_bf16 : Ideal.ofBits .bf16 0x0000#16 = 0 := by
  simp [Ideal.ofBits, Ideal.ieee]

/-- `1 / (1 + exp (-x))` of a real number. -/
theorem logistic_real (x : ℝ) : Ideal.div 1 (1 + Ideal.exp (-(x : EReal))) = (((1 + Real.exp (-x))⁻¹ : ℝ) : EReal) :=
  Ideal.logistic_coe x

theorem half_tanh_real (x : ℝ) : 1 / 2 + 1 / 2 * Real.tanh (1 / 2 * x) = (1 + Real.exp (-x))⁻¹ := by
  have h1 : Real.exp (-x) = Real.exp (-(1 / 2 * x)) * Real.exp (-(1 / 2 * x)) := by
    rw [← Real.exp_add]; ring_nf
  have h2 : Real.exp (1 / 2 * x) * Real.exp (-(1 / 2 * x)) = 1 := by
    rw [← Real.exp_add]; simp
  have ha := Real.exp_pos (1 / 2 * x)
  have hb := Real.exp_pos (-(1 / 2 * x))
  rw [Real.tanh_eq_sinh_div_cosh, Real.sinh_eq, Real.cosh_eq, h1]
  generalize Real.exp (1 / 2 * x) = a at *
  generalize Real.exp (-(1 / 2 * x)) = b at *
  have hc : (a + b) ≠ 0 := by positivity
  have hd : (1 + b * b) ≠ 0 := by positivity
  field_simp
  nlinarith

/-- The sigmoid's two forms agree at every number, the infinite ones included. -/
theorem sigmoid (x : EReal) :
    Ideal.ofBits .f32 0x3F000000#32 + Ideal.ofBits .f32 0x3F000000#32 * Ideal.tanh (Ideal.ofBits .f32 0x3F000000#32 * x)
      = Ideal.div 1 (1 + Ideal.exp (-x)) := by
  rw [half]
  induction x with
  | bot =>
    have e : Ideal.div 1 (1 + Ideal.exp (-(⊥ : EReal))) = 0 := Ideal.logistic_bot
    rw [e, EReal.coe_mul_bot_of_pos (by norm_num), Ideal.tanh_bot, ← EReal.coe_one, ← EReal.coe_neg]
    norm_cast; norm_num
  | top =>
    have e : Ideal.div 1 (1 + Ideal.exp (-(⊤ : EReal))) = 1 := Ideal.logistic_top
    rw [e, EReal.coe_mul_top_of_pos (by norm_num), Ideal.tanh_top, ← EReal.coe_one]
    norm_cast; norm_num
  | coe x =>
    rw [logistic_real, ← half_tanh_real, ← EReal.coe_mul]
    show ((1 / 2 : ℝ) : EReal) + ((1 / 2 : ℝ) : EReal) * ((Real.tanh (1 / 2 * x) : ℝ) : EReal) = _
    norm_cast

/-- The product with a sigmoid in its two forms agrees at a finite number. -/
theorem silu (x : EReal) (hb : x ≠ ⊥) (ht : x ≠ ⊤) :
    Ideal.ofBits .f32 0x3F000000#32 * x + Ideal.ofBits .f32 0x3F000000#32 * x * Ideal.tanh (Ideal.ofBits .f32 0x3F000000#32 * x)
      = x * Ideal.div 1 (1 + Ideal.exp (-x)) := by
  rw [half]
  lift x to ℝ using ⟨ht, hb⟩
  rw [logistic_real, ← half_tanh_real, ← EReal.coe_mul]
  show ((1 / 2 * x : ℝ) : EReal) + ((1 / 2 * x : ℝ) : EReal) * ((Real.tanh (1 / 2 * x) : ℝ) : EReal) = _
  norm_cast
  ring

theorem sqrt_2_pi : Ideal.ofBits .f32 0x3F4C422A#32 = ((6693141 / 8388608 : ℝ) : EReal) := by
  simp [Ideal.ofBits, Ideal.ieee, -EReal.coe_mul]; norm_num

theorem cubic : Ideal.ofBits .f32 0x3D372713#32 = ((12003091 / 268435456 : ℝ) : EReal) := by
  simp [Ideal.ofBits, Ideal.ieee, -EReal.coe_mul]; norm_num

/-- The approximated gelu in its two forms agrees at a finite number. -/
theorem gelu (x : EReal) (hb : x ≠ ⊥) (ht : x ≠ ⊤) :
    Ideal.ofBits .f32 0x3F000000#32 * x + Ideal.ofBits .f32 0x3F000000#32 * x
        * Ideal.tanh (x * (Ideal.ofBits .f32 0x3F4C422A#32 + (((6693141 / 8388608) * (12003091 / 268435456) : ℝ) : EReal) * (x * x)))
      = x * (Ideal.ofBits .f32 0x3F000000#32
          * (1 + Ideal.tanh (Ideal.ofBits .f32 0x3F4C422A#32 * (x + Ideal.ofBits .f32 0x3D372713#32 * (x * x * x))))) := by
  rw [half, sqrt_2_pi, cubic]
  lift x to ℝ using ⟨ht, hb⟩
  generalize (6693141 / 8388608 : ℝ) = s
  generalize (12003091 / 268435456 : ℝ) = k
  have e1 : ((x : EReal) * ((s : EReal) + ((s * k : ℝ) : EReal) * (x * x))) = ((s * (x + k * (x * x * x)) : ℝ) : EReal) := by
    norm_cast; ring
  have e2 : ((s : EReal) * ((x : EReal) + (k : EReal) * (x * x * x))) = ((s * (x + k * (x * x * x)) : ℝ) : EReal) := by
    norm_cast
  rw [e1, e2]
  show ((1 / 2 : ℝ) : EReal) * x + ((1 / 2 : ℝ) : EReal) * x * ((Real.tanh _ : ℝ) : EReal) = (x : EReal) * (((1 / 2 : ℝ) : EReal) * (1 + ((Real.tanh _ : ℝ) : EReal)))
  norm_cast
  ring

/-- A sum of products of finite numbers is finite. -/
theorem sum_mul_finite {ι : Type} (s : Finset ι) (f g : ι → EReal) (hf : ∀ k, f k ≠ ⊥ ∧ f k ≠ ⊤) (hg : ∀ k, g k ≠ ⊥ ∧ g k ≠ ⊤) :
    (∑ k ∈ s, f k * g k) ≠ ⊥ ∧ (∑ k ∈ s, f k * g k) ≠ ⊤ := by
  have hF : ∀ k, f k = ((f k).toReal : EReal) := fun k => (EReal.coe_toReal (hf k).2 (hf k).1).symm
  have hG : ∀ k, g k = ((g k).toReal : EReal) := fun k => (EReal.coe_toReal (hg k).2 (hg k).1).symm
  have e : (∑ k ∈ s, f k * g k) = ((∑ k ∈ s, (f k).toReal * (g k).toReal : ℝ) : EReal) := by
    have h := map_sum (⟨⟨fun r : ℝ => (r : EReal), EReal.coe_zero⟩, EReal.coe_add⟩ : ℝ →+ EReal) (fun k => (f k).toReal * (g k).toReal) s
    refine Eq.trans (Finset.sum_congr rfl fun k _ => ?_) h.symm
    show f k * g k = (((f k).toReal * (g k).toReal : ℝ) : EReal)
    rw [EReal.coe_mul, ← hF, ← hG]
  rw [e]
  exact ⟨EReal.coe_ne_bot _, EReal.coe_ne_top _⟩

/-- A number whose absolute value compares below infinity is finite. -/
theorem finite_of_lt {φ : FTy} (x : EReal) (h : (Ideal.cmp .olt (max x (-x)) ⊤ : BitVec 1) = 1#1) : x ≠ ⊥ ∧ x ≠ ⊤ := by
  constructor <;> rintro rfl <;> simp [Ideal.cmp] at h

end Cert.Scalars

end
-- ==== Proof.FfnUpValue.lean ====
module

public import proofs.«01_k».proof.Proof.Gen.FfnUpIdeal.Frame
public import proofs.«01_k».proof.Proof.Gen.FfnUpIdeal.Value
public import proofs.«01_k».proof.Proof.Gen.FfnUpRefIdeal.Run
public import Idealize.ShloMosaic.Lib.Pipeline.ValueKit
public import proofs.«01_k».proof.Proof.Scalars
public import proofs.«01_k».proof.Pre_gate_finite
public import Idealize.ShloMosaic.Lib.ReduceAll

@[expose] public section

/-! The value of the feed-forward up call: on finite operands the kernel leaves in its result array what the reference returns. -/

set_option maxRecDepth 16384

noncomputable section

open Idealize.ShloMosaic Idealize.ShloMosaic.TcCoe Idealize.SL.Sem
open Idealize.ShloMosaic.Pipeline (Dat)

namespace Cert.FfnUpRefIdeal.Value

open Cert.FfnUpRefIdeal Cert.FfnUpRefIdeal.Gen

/-- What the reference returns, as one term over its arguments. -/
def REF (a0 : FVec Ideal S16384x4096 .bf16) (a1 : FVec Ideal S4096x11264 .bf16) (a2 : FVec Ideal S4096x11264 .bf16) : FVec Ideal S16384x11264 .bf16 :=
  truncf .bf16 (pad S16384x11264 ![0, 0] ![0, 256] ![0, 0] (mulf (mulf (Host.dotGeneral dot_S16384x4096_S4096x11008_S16384x11008_1_0_0_1_n_n none (extf .f32 a0 bitsLt_bf16_f32) (extf .f32 (extractStridedSlice S4096x11008 ![0, 0] a1 slices_S4096x11264_S4096x11008_0_0) bitsLt_bf16_f32)) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (Host.dotGeneral dot_S16384x4096_S4096x11008_S16384x11008_1_0_0_1_n_n none (extf .f32 a0 bitsLt_bf16_f32) (extf .f32 (extractStridedSlice S4096x11008 ![0, 0] a1 slices_S4096x11264_S4096x11008_0_0) bitsLt_bf16_f32))))))) (Host.dotGeneral dot_S16384x4096_S4096x11008_S16384x11008_1_0_0_1_n_n none (extf .f32 a0 bitsLt_bf16_f32) (extf .f32 (extractStridedSlice S4096x11008 ![0, 0] a2 slices_S4096x11264_S4096x11008_0_0) bitsLt_bf16_f32))) (sitofp .f32 (constantI S_ 32 0#32)) pads_S16384x11008_S16384x11264_000_02560 h_S_) bitsLt_bf16_f32

/-- The reference with the kernel's form of the activation, at every column of the padded result. -/
def KREF (a0 : FVec Ideal S16384x4096 .bf16) (a1 : FVec Ideal S4096x11264 .bf16) (a2 : FVec Ideal S4096x11264 .bf16) :
    FVec Ideal S16384x11264 .bf16 := fun j =>
  if (j 1 : ℕ) < 11008 then
    (Ideal.ofBits .f32 0x3F000000#32 * (∑ k : Fin 4096, a0 (ix2 (j 0) k) * a1 (ix2 k (j 1)))
      + Ideal.ofBits .f32 0x3F000000#32 * (∑ k : Fin 4096, a0 (ix2 (j 0) k) * a1 (ix2 k (j 1)))
        * Ideal.tanh (Ideal.ofBits .f32 0x3F000000#32 * (∑ k : Fin 4096, a0 (ix2 (j 0) k) * a1 (ix2 k (j 1)))))
      * (∑ k : Fin 4096, a0 (ix2 (j 0) k) * a2 (ix2 k (j 1)))
  else 0

theorem kref_in (a0 : FVec Ideal S16384x4096 .bf16) (a1 : FVec Ideal S4096x11264 .bf16) (a2 : FVec Ideal S4096x11264 .bf16)
    (j : S16384x11264.Idx) (h : (j 1 : ℕ) < 11008) : KREF a0 a1 a2 j =
    (Ideal.ofBits .f32 0x3F000000#32 * (∑ k : Fin 4096, a0 (ix2 (j 0) k) * a1 (ix2 k (j 1)))
      + Ideal.ofBits .f32 0x3F000000#32 * (∑ k : Fin 4096, a0 (ix2 (j 0) k) * a1 (ix2 k (j 1)))
        * Ideal.tanh (Ideal.ofBits .f32 0x3F000000#32 * (∑ k : Fin 4096, a0 (ix2 (j 0) k) * a1 (ix2 k (j 1)))))
      * (∑ k : Fin 4096, a0 (ix2 (j 0) k) * a2 (ix2 k (j 1))) := if_pos h

theorem kref_out (a0 : FVec Ideal S16384x4096 .bf16) (a1 : FVec Ideal S4096x11264 .bf16) (a2 : FVec Ideal S4096x11264 .bf16)
    (j : S16384x11264.Idx) (h : ¬(j 1 : ℕ) < 11008) : KREF a0 a1 a2 j = 0 := if_neg h

/-- On finite operands of the gate's product the two forms agree. -/
theorem ref_eq (a0 : FVec Ideal S16384x4096 .bf16) (a1 : FVec Ideal S4096x11264 .bf16) (a2 : FVec Ideal S4096x11264 .bf16)
    (h0 : ∀ i, a0 i ≠ ⊥ ∧ a0 i ≠ ⊤) (h1 : ∀ i, a1 i ≠ ⊥ ∧ a1 i ≠ ⊤) : REF a0 a1 a2 = KREF a0 a1 a2 := by
  funext j
  by_cases h : (j 1 : ℕ) < 11008
  · rw [kref_in a0 a1 a2 j h]
    pointwise [REF]
    rw [dif_pos h]
    have hf := Cert.Scalars.sum_mul_finite Finset.univ (fun k : Fin 4096 => a0 (ix2 (j 0) k)) (fun k : Fin 4096 => a1 (ix2 k (j 1)))
      (fun k => h0 _) (fun k => h1 _)
    rw [Cert.Scalars.silu _ hf.1 hf.2]
  · rw [kref_out a0 a1 a2 j h]
    pointwise [REF]
    rw [dif_neg h]
    simp [FloatOps.sitofp]

/-- What the precondition says of the operands. -/
theorem operands [Cert.Pre_gate_finite.Facts] (a0 : FVec Ideal S16384x4096 .bf16) (a1 : FVec Ideal S4096x11264 .bf16) (a2 : FVec Ideal S4096x11264 .bf16)
    (h : Cert.Pre_gate_finite.fn (F := Ideal) a0 a1 a2 = fun _ => 1#1) :
    (∀ i, a0 i ≠ ⊥ ∧ a0 i ≠ ⊤) ∧ (∀ i, a1 i ≠ ⊥ ∧ a1 i ≠ ⊤) := by
  have h' := congrFun h (fun a => a.elim0)
  dsimp only [Cert.Pre_gate_finite.fn] at h'
  obtain ⟨e0, e1⟩ := IntOp.andi_eq_one.1 h'
  constructor
  · intro i
    have := Host.reduce_andi_all _ _ _ _ _ e0 i
    exact Cert.Scalars.finite_of_lt (φ := .bf16) _ (by rw [← Cert.Scalars.top_bf16]; exact this)
  · intro i
    have := Host.reduce_andi_all _ _ _ _ _ e1 i
    exact Cert.Scalars.finite_of_lt (φ := .bf16) _ (by rw [← Cert.Scalars.top_bf16]; exact this)

end Cert.FfnUpRefIdeal.Value

namespace Cert.FfnUpIdeal.Value

open Cert.FfnUpIdeal Cert.FfnUpIdeal.Gen
open Cert.FfnUpRefIdeal.Value (REF KREF kref_in kref_out)

variable (m : (ℓ : Loc nD τ sig) → Buf (Elt Ideal) ℓ)

/-- The block of every window at a grid point. -/
theorem idx_val : ∀ t : Fin cfg0.N, win0_0.index t = ![t.val / 11, 0]
    ∧ win0_1.index t = ![0, t.val % 11]
    ∧ win0_2.index t = ![0, t.val % 11]
    ∧ win0_3.index t = ![t.val / 11, t.val % 11] :=
  (by decide +kernel : ∀ t : Fin grid0.N, _)

set_option maxHeartbeats 1600000 in
/-- POINT, where all four column tiles lie in the unpadded part. -/
theorem pointA (c : Dev nD) (t : Fin cfg0.N) (h0 : t.val % 11 ≤ 9) (h1 : ¬t.val % 11 = 10) (y) :
    outsAt0 m c t.val t.isLt y
      = KREF (m ((c : Thread nD τ).loc main_arg0)) (m ((c : Thread nD τ).loc main_arg1)) (m ((c : Thread nD τ).loc
        main_arg2)) (((cfg0.win 3).blk t).view.emb y) := by
  rw [outsAt0_A m c t h0 h1]; frame_out
  have hv := h0
  clear h0 h1
  canon_tiles x h
  all_goals
    rw [kref_in _ _ _ _ (by blk_simp [idx_val t] <;> omega)]
    open_payloads; pointwise; blk_point [iblk, V, idx_val t]

set_option maxHeartbeats 1600000 in
/-- POINT, where the last column tile is padding. -/
theorem pointB (c : Dev nD) (t : Fin cfg0.N) (h0 : ¬t.val % 11 ≤ 9) (h1 : t.val % 11 = 10) (y) :
    outsAt0 m c t.val t.isLt y
      = KREF (m ((c : Thread nD τ).loc main_arg0)) (m ((c : Thread nD τ).loc main_arg1)) (m ((c : Thread nD τ).loc
        main_arg2)) (((cfg0.win 3).blk t).view.emb y) := by
  rw [outsAt0_B m c t h0 h1]; frame_out
  have hv := h1
  clear h0 h1
  canon_tiles x h
  case piece0 =>
    rw [kref_out _ _ _ _ (by blk_simp [idx_val t] <;> omega)]
    open_payloads; pointwise
  all_goals
    rw [kref_in _ _ _ _ (by blk_simp [idx_val t] <;> omega)]
    open_payloads; pointwise; blk_point [iblk, V, idx_val t]

/-- BRIDGE: the result array after the run. -/
theorem final (c : Dev nD) : (dats m 0 c).arrAt 3 (cfgs 0).N = KREF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  by_cases h : t.val % 11 = 10
  · exact pointB m c t (by omega) h y
  · exact pointA m c t (by omega) h y

end Cert.FfnUpIdeal.Value

end
-- ==== Proof.FfnDownValue.lean ====
module

public import proofs.«01_k».proof.Proof.Gen.FfnDownIdeal.Frame
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pipeline.ReadBack

@[expose] public section

/-! The value of the `FfnDown` call: what the kernel leaves in its result array is what the reference returns. -/

set_option maxRecDepth 16384

noncomputable section

open Idealize.ShloMosaic Idealize.ShloMosaic.TcCoe Idealize.SL.Sem
open Idealize.ShloMosaic.Pipeline (Dat)

namespace Cert.FfnDownRefIdeal.Value

open Cert.FfnDownRefIdeal Cert.FfnDownRefIdeal.Gen

/-- What the reference returns, as one term over its arguments. -/
def REF (a0 : FVec Ideal S16384x11264 .bf16) (a1 : FVec Ideal S11264x4096 .bf16) (a2 : FVec Ideal S16384x4096 .f32) (a3 : FVec Ideal S4096 .f32) : FVec Ideal S16384x4096 .f32 :=
  mulf (mulf (addf a2 (Host.dotGeneral dot_S16384x11008_S11008x4096_S16384x4096_1_0_0_1_n_n none (extf .f32 (extractStridedSlice S16384x11008 ![0, 0] a0 slices_S16384x11264_S16384x11008_0_0) bitsLt_bf16_f32) (extf .f32 (extractStridedSlice S11008x4096 ![0, 0] a1 slices_S11264x4096_S11008x4096_0_0) bitsLt_bf16_f32))) (broadcastInDim S16384x4096 ![0, 1] bcast_S16384x1_S16384x4096_0_1 (Host.rsqrt (addf (Host.divf (broadcastInDim S16384x1 ![0] bcast_S16384_S16384x1_0 (Host.reduceAdd (mulf (addf a2 (Host.dotGeneral dot_S16384x11008_S11008x4096_S16384x4096_1_0_0_1_n_n none (extf .f32 (extractStridedSlice S16384x11008 ![0, 0] a0 slices_S16384x11264_S16384x11008_0_0) bitsLt_bf16_f32) (extf .f32 (extractStridedSlice S11008x4096 ![0, 0] a1 slices_S11264x4096_S11008x4096_0_0) bitsLt_bf16_f32))) (addf a2 (Host.dotGeneral dot_S16384x11008_S11008x4096_S16384x4096_1_0_0_1_n_n none (extf .f32 (extractStridedSlice S16384x11008 ![0, 0] a0 slices_S16384x11264_S16384x11008_0_0) bitsLt_bf16_f32) (extf .f32 (extractStridedSlice S11008x4096 ![0, 0] a1 slices_S11264x4096_S11008x4096_0_0) bitsLt_bf16_f32)))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 a3))

/-- The residual stream after the down projection, over all 11008 hidden lanes. -/
def Z (a0 : FVec Ideal S16384x11264 .bf16) (a1 : FVec Ideal S11264x4096 .bf16) (a2 : FVec Ideal S16384x4096 .f32)
    (r : Fin 16384) (c : Fin 4096) : EReal :=
  a2 (ix2 r c) + ∑ k : Fin 11008, a0 (ix2 r (k.castLE (by omega))) * a1 (ix2 (k.castLE (by omega)) c)

/-- The reference at an index. -/
theorem ref_at (a0 : FVec Ideal S16384x11264 .bf16) (a1 : FVec Ideal S11264x4096 .bf16) (a2 : FVec Ideal S16384x4096 .f32) (a3 : FVec Ideal S4096 .f32)
    (j : S16384x4096.Idx) :
    REF a0 a1 a2 a3 j = Z a0 a1 a2 (j 0) (j 1)
      * Ideal.rsqrt (Ideal.div (∑ k : Fin 4096, Z a0 a1 a2 (j 0) k * Z a0 a1 a2 (j 0) k) (Ideal.ofBits .f32 0x45800000#32) + Ideal.ofBits .f32 0x358637BD#32)
      * a3 (ix1 (j 1)) := by
  pointwise [REF, Z]
  rfl

end Cert.FfnDownRefIdeal.Value

namespace Cert.FfnDownIdeal.Value

open Cert.FfnDownIdeal Cert.FfnDownIdeal.Gen
open Cert.FfnDownRefIdeal.Value (REF Z ref_at)

variable (m : (ℓ : Loc nD τ sig) → Buf (Elt Ideal) ℓ)

/-- The block of every window at a grid point. -/
theorem idx_val : ∀ t : Fin cfg0.N, win0_0.index t = ![t.val / 11, t.val % 11]
    ∧ win0_1.index t = ![t.val % 11, 0]
    ∧ win0_2.index t = ![t.val / 11, 0]
    ∧ win0_3.index t = ![0, 0]
    ∧ win0_4.index t = ![t.val / 11, 0] :=
  (by decide +kernel : ∀ t : Fin grid0.N, _)

-- window 3's array `main_v0` is made by @main's host operations before the region (= shapeCast _ main_arg3 shapeCasts_S4096_S1x4096): read `V m c main_v0` with `entry_read`, never by a rewriting lemma

/-- A block plus the product over the 1024 lanes of a point. -/
def added (P : Vec Ideal S512x4096 .f32) (x0 : Vec Ideal S512x1024 .bf16) (x1 : Vec Ideal S1024x4096 .bf16) : Vec Ideal S512x4096 .f32 :=
  fun y => (show EReal from P y) + ∑ k : Fin 1024, (show EReal from x0 (ix2 (y 0) k)) * x1 (ix2 k (y 1))

set_option maxHeartbeats 1600000 in
/-- First point of a row of blocks. -/
theorem outA (c : Dev nD) (t : Fin cfg0.N) (hc0 hc1 hc2 hc3)
    (x0 : Vec Ideal S512x1024 .bf16) (x1 : Vec Ideal S1024x4096 .bf16) (x2 : Vec Ideal S512x4096 .f32) (x3 : Vec Ideal S1x4096 .f32) (y : S512x4096.Idx) :
    out0_A_4 (F := Ideal) c (grid0.coords t) (ms0_0 t) (hs0_0 t) (ms0_1 t) (hs0_1 t) (ms0_2 t) (hs0_2 t) (ms0_3 t) (hs0_3 t) (ms0_4 t) (hs0_4 t) hc0 hc1 hc2 hc3 x0 x1 x2 x3 y = added x2 x0 x1 y := by
  frame_out
  clear hc0 hc1 hc2 hc3
  canon_tiles x h
  all_goals (open_payloads; pointwise [added]; blk_point [])

set_option maxHeartbeats 1600000 in
/-- A middle point of a row of blocks. -/
theorem outB (c : Dev nD) (t : Fin cfg0.N) (hc0 hc1 hc2 hc3)
    (x0 : Vec Ideal S512x1024 .bf16) (x1 : Vec Ideal S1024x4096 .bf16) (x2 : Vec Ideal S512x4096 .f32) (x3 : Vec Ideal S1x4096 .f32) (P : Vec Ideal S512x4096 .f32) (y : S512x4096.Idx) :
    out0_B_4 (F := Ideal) c (grid0.coords t) (ms0_0 t) (hs0_0 t) (ms0_1 t) (hs0_1 t) (ms0_2 t) (hs0_2 t) (ms0_3 t) (hs0_3 t) (ms0_4 t) (hs0_4 t) hc0 hc1 hc2 hc3 x0 x1 x2 x3 P y = added P x0 x1 y := by
  frame_out
  clear hc0 hc1 hc2 hc3
  canon_tiles x h
  all_goals (open_payloads; pointwise [added]; blk_point [])

/-- A block plus the product over the 768 lanes of the last point. -/
def acc (P : Vec Ideal S512x4096 .f32) (x0 : Vec Ideal S512x1024 .bf16) (x1 : Vec Ideal S1024x4096 .bf16) : Vec Ideal S512x4096 .f32 :=
  fun y => (show EReal from P y) + ∑ k : Fin 768, (show EReal from x0 (ix2 (y 0) (k.castLE (by omega)))) * x1 (ix2 (k.castLE (by omega)) (y 1))

set_option maxHeartbeats 1600000 in
/-- The four column stores of the last point leave that sum. -/
theorem acc_canon (P : Vec Ideal S512x4096 .f32) (x0 : Vec Ideal S512x1024 .bf16) (x1 : Vec Ideal S1024x4096 .bf16) :
    View.canon (Val := Elt Ideal) (s := S512x4096) (e := .f32)
      [⟨Rect.unit ![0, 3072] ![512, 1024] inb_S512x4096_S512x1024_0_3072,
          k0_pay12 (F := Ideal) (View.ld (Val := Elt Ideal) (e' := .bf16) x0 (Rect.unit ![0, 0] ![512, 768] inb_S512x1024_S512x768_0_0)) (View.ld (Val := Elt Ideal) (e' := .f32) P (Rect.unit ![0, 3072] ![512, 1024] inb_S512x4096_S512x1024_0_3072)) (View.ld (Val := Elt Ideal) (e' := .bf16) x1 (Rect.unit ![0, 3072] ![768, 1024] inb_S1024x4096_S768x1024_0_3072))⟩,
        ⟨Rect.unit ![0, 2048] ![512, 1024] inb_S512x4096_S512x1024_0_2048,
          k0_pay11 (F := Ideal) (View.ld (Val := Elt Ideal) (e' := .bf16) x0 (Rect.unit ![0, 0] ![512, 768] inb_S512x1024_S512x768_0_0)) (View.ld (Val := Elt Ideal) (e' := .f32) P (Rect.unit ![0, 2048] ![512, 1024] inb_S512x4096_S512x1024_0_2048)) (View.ld (Val := Elt Ideal) (e' := .bf16) x1 (Rect.unit ![0, 2048] ![768, 1024] inb_S1024x4096_S768x1024_0_2048))⟩,
        ⟨Rect.unit ![0, 1024] ![512, 1024] inb_S512x4096_S512x1024_0_1024,
          k0_pay10 (F := Ideal) (View.ld (Val := Elt Ideal) (e' := .bf16) x0 (Rect.unit ![0, 0] ![512, 768] inb_S512x1024_S512x768_0_0)) (View.ld (Val := Elt Ideal) (e' := .f32) P (Rect.unit ![0, 1024] ![512, 1024] inb_S512x4096_S512x1024_0_1024)) (View.ld (Val := Elt Ideal) (e' := .bf16) x1 (Rect.unit ![0, 1024] ![768, 1024] inb_S1024x4096_S768x1024_0_1024))⟩,
        ⟨Rect.unit ![0, 0] ![512, 1024] inb_S512x4096_S512x1024_0_0,
          k0_pay9 (F := Ideal) (View.ld (Val := Elt Ideal) (e' := .bf16) x0 (Rect.unit ![0, 0] ![512, 768] inb_S512x1024_S512x768_0_0)) (View.ld (Val := Elt Ideal) (e' := .f32) P (Rect.unit ![0, 0] ![512, 1024] inb_S512x4096_S512x1024_0_0)) (View.ld (Val := Elt Ideal) (e' := .bf16) x1 (Rect.unit ![0, 0] ![768, 1024] inb_S1024x4096_S768x1024_0_0))⟩]
      = acc P x0 x1 := by
  funext y
  canon_tiles x h
  all_goals (open_payloads; pointwise [acc]; blk_point [] <;> rfl)

/-- Rows normalised by the root of their mean square and scaled. -/
def normed (A : Vec Ideal S512x4096 .f32) (x3 : Vec Ideal S1x4096 .f32) : Vec Ideal S512x4096 .f32 :=
  fun y => (show EReal from A y) * Ideal.rsqrt (Ideal.div (∑ k : Fin 4096, (show EReal from A (ix2 (y 0) k)) * A (ix2 (y 0) k)) (Ideal.ofBits .f32 0x45800000#32) + Ideal.ofBits .f32 0x358637BD#32)
    * x3 (ix2 (0 : Fin 1) (y 1))

/-- Rows 0 to 63 normalised. -/
theorem rows0 (A : Vec Ideal S512x4096 .f32) (x3 : Vec Ideal S1x4096 .f32) (x : S64x4096.Idx) (y : S512x4096.Idx)
    (h0 : (y 0 : ℕ) = x 0) (h1 : (y 1 : ℕ) = x 1) :
    k0_pay15 (F := Ideal) (View.ld (Val := Elt Ideal) (e' := .f32) A (Rect.unit ![0, 0] ![64, 4096] inb_S512x4096_S64x4096_0_0)) x3 x = normed A x3 y := by
  pointwise [k0_pay15, normed]
  blk_point []

/-- Rows 64 to 127 normalised. -/
theorem rows64 (A : Vec Ideal S512x4096 .f32) (x3 : Vec Ideal S1x4096 .f32) (x : S64x4096.Idx) (y : S512x4096.Idx)
    (h0 : (y 0 : ℕ) = 64 + x 0) (h1 : (y 1 : ℕ) = x 1) :
    k0_pay16 (F := Ideal) (View.ld (Val := Elt Ideal) (e' := .f32) A (Rect.unit ![64, 0] ![64, 4096] inb_S512x4096_S64x4096_64_0)) x3 x = normed A x3 y := by
  pointwise [k0_pay16, normed]
  blk_point []

/-- Rows 128 to 191 normalised. -/
theorem rows128 (A : Vec Ideal S512x4096 .f32) (x3 : Vec Ideal S1x4096 .f32) (x : S64x4096.Idx) (y : S512x4096.Idx)
    (h0 : (y 0 : ℕ) = 128 + x 0) (h1 : (y 1 : ℕ) = x 1) :
    k0_pay18 (F := Ideal) (k0_pay17 (F := Ideal) (View.ld (Val := Elt Ideal) (e' := .f32) A (Rect.unit ![128, 0] ![64, 4096] inb_S512x4096_S64x4096_128_0))) x3 x = normed A x3 y := by
  pointwise [k0_pay17, k0_pay18, normed]
  blk_point []

/-- Rows 192 to 255 normalised. -/
theorem rows192 (A : Vec Ideal S512x4096 .f32) (x3 : Vec Ideal S1x4096 .f32) (x : S64x4096.Idx) (y : S512x4096.Idx)
    (h0 : (y 0 : ℕ) = 192 + x 0) (h1 : (y 1 : ℕ) = x 1) :
    k0_pay19 (F := Ideal) (View.ld (Val := Elt Ideal) (e' := .f32) A (Rect.unit ![192, 0] ![64, 4096] inb_S512x4096_S64x4096_192_0)) x3 x = normed A x3 y := by
  pointwise [k0_pay19, normed]
  blk_point []

/-- Rows 256 to 319 normalised. -/
theorem rows256 (A : Vec Ideal S512x4096 .f32) (x3 : Vec Ideal S1x4096 .f32) (x : S64x4096.Idx) (y : S512x4096.Idx)
    (h0 : (y 0 : ℕ) = 256 + x 0) (h1 : (y 1 : ℕ) = x 1) :
    k0_pay23 (F := Ideal) (k0_pay20 (F := Ideal) (View.ld (Val := Elt Ideal) (e' := .f32) A (Rect.unit ![256, 0] ![64, 4096] inb_S512x4096_S64x4096_256_0))) (k0_pay21 (F := Ideal) x3) (k0_pay22 (F := Ideal) (View.ld (Val := Elt Ideal) (e' := .f32) A (Rect.unit ![256, 0] ![64, 4096] inb_S512x4096_S64x4096_256_0))) x = normed A x3 y := by
  pointwise [k0_pay20, k0_pay21, k0_pay22, k0_pay23, normed]
  blk_point []

/-- Rows 320 to 383 normalised. -/
theorem rows320 (A : Vec Ideal S512x4096 .f32) (x3 : Vec Ideal S1x4096 .f32) (x : S64x4096.Idx) (y : S512x4096.Idx)
    (h0 : (y 0 : ℕ) = 320 + x 0) (h1 : (y 1 : ℕ) = x 1) :
    k0_pay24 (F := Ideal) (View.ld (Val := Elt Ideal) (e' := .f32) A (Rect.unit ![320, 0] ![64, 4096] inb_S512x4096_S64x4096_320_0)) x3 x = normed A x3 y := by
  pointwise [k0_pay24, normed]
  blk_point []

/-- Rows 384 to 447 normalised. -/
theorem rows384 (A : Vec Ideal S512x4096 .f32) (x3 : Vec Ideal S1x4096 .f32) (x : S64x4096.Idx) (y : S512x4096.Idx)
    (h0 : (y 0 : ℕ) = 384 + x 0) (h1 : (y 1 : ℕ) = x 1) :
    k0_pay13 (F := Ideal) (k0_pay25 (F := Ideal) (View.ld (Val := Elt Ideal) (e' := .f32) A (Rect.unit ![384, 0] ![64, 4096] inb_S512x4096_S64x4096_384_0))) (k0_pay26 (F := Ideal) x3) (k0_pay27 (F := Ideal) (View.ld (Val := Elt Ideal) (e' := .f32) A (Rect.unit ![384, 0] ![64, 4096] inb_S512x4096_S64x4096_384_0))) x = normed A x3 y := by
  pointwise [k0_pay13, k0_pay25, k0_pay26, k0_pay27, normed]
  blk_point []

/-- Rows 448 to 511 normalised. -/
theorem rows448 (A : Vec Ideal S512x4096 .f32) (x3 : Vec Ideal S1x4096 .f32) (x : S64x4096.Idx) (y : S512x4096.Idx)
    (h0 : (y 0 : ℕ) = 448 + x 0) (h1 : (y 1 : ℕ) = x 1) :
    k0_pay14 (F := Ideal) (View.ld (Val := Elt Ideal) (e' := .f32) A (Rect.unit ![448, 0] ![64, 4096] inb_S512x4096_S64x4096_448_0)) x3 x = normed A x3 y := by
  pointwise [k0_pay14, normed]
  blk_point []

set_option maxHeartbeats 3200000 in
/-- Last point of a row of blocks: the completed rows, normalised. -/
theorem outC (c : Dev nD) (t : Fin cfg0.N) (hc0 hc1 hc2 hc3)
    (x0 : Vec Ideal S512x1024 .bf16) (x1 : Vec Ideal S1024x4096 .bf16) (x2 : Vec Ideal S512x4096 .f32) (x3 : Vec Ideal S1x4096 .f32) (P : Vec Ideal S512x4096 .f32) (y : S512x4096.Idx) :
    out0_C_4 (F := Ideal) c (grid0.coords t) (ms0_0 t) (hs0_0 t) (ms0_1 t) (hs0_1 t) (ms0_2 t) (hs0_2 t) (ms0_3 t) (hs0_3 t) (ms0_4 t) (hs0_4 t) hc0 hc1 hc2 hc3 x0 x1 x2 x3 P y
      = normed (acc P x0 x1) x3 y := by
  frame_open
  simp (disch := decide) only [↓ View.readCov_skip]
  frame_out
  simp only [View.readCov_eq_canon']
  clear hc0 hc1 hc2 hc3
  have hA := acc_canon P x0 x1
  generalize acc P x0 x1 = A at hA ⊢
  simp only [hA]
  refine View.canon_append_of_piecesOf (normed A x3) [_, _, _, _] [_, _, _, _, _, _, _, _] ⟨?_, ?_, ?_, ?_, ?_, ?_, ?_, ?_, trivial⟩ y ?_
  case refine_9 =>
    exact View.cover_of_tiledL (s := S512x4096) _ S64x4096.size (by sl_kernel_rfl) y
  case refine_1 => exact fun x => rows448 A x3 x _ (by simp) (by simp)
  case refine_2 => exact fun x => rows384 A x3 x _ (by simp) (by simp)
  case refine_3 => exact fun x => rows320 A x3 x _ (by simp) (by simp)
  case refine_4 => exact fun x => rows256 A x3 x _ (by simp) (by simp)
  case refine_5 => exact fun x => rows192 A x3 x _ (by simp) (by simp)
  case refine_6 => exact fun x => rows128 A x3 x _ (by simp) (by simp)
  case refine_7 => exact fun x => rows64 A x3 x _ (by simp) (by simp)
  case refine_8 => exact fun x => rows0 A x3 x _ (by simp) (by simp)

/-- One lane's product in the down projection. -/
def lane (c : Dev nD) (R : Fin 16384) (C : Fin 4096) (k : ℕ) : EReal :=
  if h : k < 11264 then (show EReal from m ((c : Thread nD τ).loc main_arg0) (ix2 R ⟨k, h⟩)) * m ((c : Thread nD τ).loc main_arg1) (ix2 ⟨k, h⟩ C) else 0

/-- The lanes of one point. -/
theorem lane_blk (c : Dev nD) (t : Fin cfg0.N) (r : Fin 512) (C : Fin 4096) (k : Fin 1024) (R : Fin 16384)
    (hR : (R : ℕ) = 512 * (t.val / 11) + r) :
    (show EReal from (iblk m c 0 t : Vec Ideal S512x1024 .bf16) (ix2 r k)) * (iblk m c 1 t : Vec Ideal S1024x4096 .bf16) (ix2 k C)
      = lane m c R C (1024 * (t.val % 11) + k) := by
  have hk : 1024 * (t.val % 11) + (k : ℕ) < 11264 := by have := k.isLt; omega
  rw [lane, dif_pos hk]
  have e0 : (iblk m c 0 t : Vec Ideal S512x1024 .bf16) (ix2 r k) = m ((c : Thread nD τ).loc main_arg0) (ix2 R ⟨1024 * (t.val % 11) + k, hk⟩) := by
    blk_point [iblk, V, idx_val t]
  have e1 : (iblk m c 1 t : Vec Ideal S1024x4096 .bf16) (ix2 k C) = m ((c : Thread nD τ).loc main_arg1) (ix2 ⟨1024 * (t.val % 11) + k, hk⟩ C) := by
    blk_point [iblk, V, idx_val t]
  exact congrArg₂ (fun a b : EReal => a * b) e0 e1

/-- The residual's block. -/
theorem res_blk (c : Dev nD) (t : Fin cfg0.N) (r : Fin 512) (C : Fin 4096) (R : Fin 16384)
    (hR : (R : ℕ) = 512 * (t.val / 11) + r) :
    (iblk m c 2 t : Vec Ideal S512x4096 .f32) (ix2 r C) = (m ((c : Thread nD τ).loc main_arg2)) (ix2 R C) := by
  blk_point [iblk, V, idx_val t]

/-- The weight's block. -/
theorem scale_blk (c : Dev nD) (t : Fin cfg0.N) (C : Fin 4096) :
    (iblk m c 3 t : Vec Ideal S1x4096 .f32) (ix2 (0 : Fin 1) C) = (m ((c : Thread nD τ).loc main_arg3)) (ix1 C) := by
  blk_point [iblk, V, idx_val t]

/-- The residual plus the first `n` lanes. -/
def part (c : Dev nD) (R : Fin 16384) (C : Fin 4096) (n : ℕ) : EReal :=
  (show EReal from (m ((c : Thread nD τ).loc main_arg2)) (ix2 R C)) + ∑ k ∈ Finset.range n, lane m c R C k

theorem part_add (c : Dev nD) (R : Fin 16384) (C : Fin 4096) (n l : ℕ) :
    part m c R C (n + l) = part m c R C n + ∑ k : Fin l, lane m c R C (n + k) := by
  rw [part, part, Finset.sum_range_add, Finset.sum_range (fun k => lane m c R C (n + k)), add_assoc]

theorem added_at (P : Vec Ideal S512x4096 .f32) (x0 : Vec Ideal S512x1024 .bf16) (x1 : Vec Ideal S1024x4096 .bf16) (r : Fin 512) (C : Fin 4096) :
    added P x0 x1 (ix2 r C) = (show EReal from P (ix2 r C)) + ∑ k : Fin 1024, (show EReal from x0 (ix2 r k)) * x1 (ix2 k C) := rfl

theorem acc_at (P : Vec Ideal S512x4096 .f32) (x0 : Vec Ideal S512x1024 .bf16) (x1 : Vec Ideal S1024x4096 .bf16) (r : Fin 512) (C : Fin 4096) :
    acc P x0 x1 (ix2 r C) = (show EReal from P (ix2 r C)) + ∑ k : Fin 768, (show EReal from x0 (ix2 r (k.castLE (by omega)))) * x1 (ix2 (k.castLE (by omega)) C) := rfl

theorem normed_at (A : Vec Ideal S512x4096 .f32) (x3 : Vec Ideal S1x4096 .f32) (r : Fin 512) (C : Fin 4096) :
    normed A x3 (ix2 r C) = (show EReal from A (ix2 r C)) * Ideal.rsqrt (Ideal.div (∑ k : Fin 4096, (show EReal from A (ix2 r k)) * A (ix2 r k)) (Ideal.ofBits .f32 0x45800000#32) + Ideal.ofBits .f32 0x358637BD#32)
      * x3 (ix2 (0 : Fin 1) C) := rfl

/-- The block after each point before a row's last. -/
theorem pre (c : Dev nD) : ∀ n (hn : n < cfg0.N), n % 11 ≤ 9 → ∀ (r : Fin 512) (C : Fin 4096) (R : Fin 16384),
    (R : ℕ) = 512 * (n / 11) + r → (outsAt0 m c n hn : Vec Ideal S512x4096 .f32) (ix2 r C) = part m c R C (1024 * (n % 11) + 1024) := by
  intro n
  induction n using Nat.strong_induction_on with
  | _ n ih =>
  intro hn h9 r C R hR
  by_cases h0 : n % 11 = 0
  · refine (congrFun (outsAt0_A m c ⟨n, hn⟩ h0 (by dsimp only; omega) (by dsimp only; omega) (by dsimp only; omega)) (ix2 r C)).trans ?_
    refine (outA c ⟨n, hn⟩ _ _ _ _ _ _ _ _ (ix2 r C)).trans ?_
    rw [part_add, added_at]
    refine congrArg₂ (· + ·) ?_ (Finset.sum_congr rfl fun k _ => lane_blk m c ⟨n, hn⟩ r C k R hR)
    refine (res_blk m c ⟨n, hn⟩ r C R hR).trans ?_
    rw [h0, part, Nat.mul_zero, Finset.range_zero, Finset.sum_empty, add_zero]
  · refine (congrFun (outsAt0_B m c ⟨n, hn⟩ h0 (by dsimp only; omega) (by dsimp only; omega) (by dsimp only; omega)) (ix2 r C)).trans ?_
    refine (outB c ⟨n, hn⟩ _ _ _ _ _ _ _ _ _ (ix2 r C)).trans ?_
    rw [part_add, added_at]
    refine congrArg₂ (· + ·) ?_ (Finset.sum_congr rfl fun k _ => lane_blk m c ⟨n, hn⟩ r C k R hR)
    refine (ih (n - 1) (by omega) _ (by omega) r C R (by omega)).trans ?_
    congr 1; omega

/-- The completed sum is the reference's. -/
theorem part_Z (c : Dev nD) (R : Fin 16384) (C : Fin 4096) (n : ℕ) (hn : n = 11008) :
    part m c R C n = Z (m ((c : Thread nD τ).loc main_arg0)) (m ((c : Thread nD τ).loc main_arg1)) (m ((c : Thread nD τ).loc main_arg2)) R C := by
  have e : part m c R C n = (show EReal from (m ((c : Thread nD τ).loc main_arg2)) (ix2 R C)) + ∑ k : Fin n, lane m c R C k :=
    congrArg _ (Finset.sum_range _)
  refine e.trans ?_
  subst hn
  refine congrArg _ (Finset.sum_congr rfl fun k _ => ?_)
  exact dif_pos (Nat.lt_of_lt_of_le k.isLt (by omega))

/-- The completed rows of a last point. -/
theorem acc_Z (c : Dev nD) (t : Fin cfg0.N) (h : t.val % 11 = 10) (r : Fin 512) (C : Fin 4096) (R : Fin 16384)
    (hR : (R : ℕ) = 512 * (t.val / 11) + r) :
    acc (outsAt0 m c (t.val - 1) (Nat.lt_of_le_of_lt (Nat.sub_le _ _) t.isLt)) (iblk m c 0 t) (iblk m c 1 t) (ix2 r C)
      = Z (m ((c : Thread nD τ).loc main_arg0)) (m ((c : Thread nD τ).loc main_arg1)) (m ((c : Thread nD τ).loc main_arg2)) R C := by
  refine Eq.trans ?_ (part_Z m c R C (1024 * (t.val % 11) + 768) (by omega))
  rw [part_add, acc_at]
  refine congrArg₂ (· + ·) ?_ (Finset.sum_congr rfl fun k _ => lane_blk m c t r C (k.castLE (by omega)) R hR)
  refine (pre m c (t.val - 1) _ (by omega) r C R (by omega)).trans ?_
  congr 1; omega

/-- What a last point leaves is the reference's block. -/
theorem pointC (c : Dev nD) (t : Fin cfg0.N) (h : t.val % 11 = 10) (r : Fin 512) (C : Fin 4096) (R : Fin 16384)
    (hR : (R : ℕ) = 512 * (t.val / 11) + r) :
    (outsAt0 m c t.val t.isLt : Vec Ideal S512x4096 .f32) (ix2 r C) = REF (m ((c : Thread nD τ).loc main_arg0)) (m ((c : Thread nD τ).loc main_arg1)) (m ((c : Thread nD τ).loc main_arg2)) (m ((c : Thread nD τ).loc main_arg3)) (ix2 R C) := by
  refine (congrFun (outsAt0_C m c t (by omega) (by omega) h h) (ix2 r C)).trans ?_
  refine (outC c t _ _ _ _ _ _ _ _ _ (ix2 r C)).trans ?_
  rw [normed_at, scale_blk]
  simp only [fun C => acc_Z m c t h r C R hR]
  exact (ref_at _ _ _ _ (ix2 R C)).symm

theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h := (flush0_4 t).mp hf
  blk_simp; rw [after0_4]
  obtain ⟨r, C, rfl⟩ : ∃ (r : Fin 512) (C : Fin 4096), y = ix2 r C := ⟨y 0, y 1, by funext a; fin_cases a <;> rfl⟩
  have hr := r.isLt
  have ht : t.val < 352 := t.isLt
  refine (pointC m c t h r C ⟨512 * (t.val / 11) + r, by omega⟩ rfl).trans ?_
  blk_point [idx_val t]

end Cert.FfnDownIdeal.Value

end
-- ==== Proof.InRestValue.lean ====
module

public import proofs.«01_k».proof.Proof.Gen.InRestIdeal.Frame
public import proofs.«01_k».proof.Proof.Gen.InRestIdeal.Value
public import proofs.«01_k».proof.Proof.Gen.InRestRefIdeal.Run
public import Idealize.ShloMosaic.Lib.Pipeline.ValueKit
public import proofs.«01_k».proof.Proof.Scalars
public import proofs.«01_k».proof.Pre_operands_finite
public import Idealize.ShloMosaic.Lib.ReduceAll

@[expose] public section

/-! The value of the input projection call of the gated branch: on finite operands the kernel leaves in its result array what the reference returns. -/

set_option maxRecDepth 16384

noncomputable section

open Idealize.ShloMosaic Idealize.ShloMosaic.TcCoe Idealize.SL.Sem
open Idealize.ShloMosaic.Pipeline (Dat)

namespace Cert.InRestRefIdeal.Value

open Cert.InRestRefIdeal Cert.InRestRefIdeal.Gen

/-- What the reference returns, as one term over its arguments. -/
def REF (a0 : FVec Ideal S16384x4096 .bf16) (a1 : FVec Ideal S4096x12288 .bf16) : FVec Ideal S16384x12288 .bf16 :=
  truncf .bf16 (concatenate S16384x12288 1 [⟨S16384x4096, (mulf (extractStridedSlice S16384x4096 ![0, 0] (Host.dotGeneral dot_S16384x4096_S4096x12288_S16384x12288_1_0_0_1_n_n none (extf .f32 a0 bitsLt_bf16_f32) (extf .f32 a1 bitsLt_bf16_f32)) slices_S16384x12288_S16384x4096_0_0) (mulf (broadcastInDim S16384x4096 ![] bcast_S_S16384x4096 (constant S_ .f32 0x3F000000#32)) (addf (broadcastInDim S16384x4096 ![] bcast_S_S16384x4096 (constant S_ .f32 0x3F800000#32)) (Host.tanh (mulf (broadcastInDim S16384x4096 ![] bcast_S_S16384x4096 (constant S_ .f32 0x3F4C422A#32)) (addf (extractStridedSlice S16384x4096 ![0, 0] (Host.dotGeneral dot_S16384x4096_S4096x12288_S16384x12288_1_0_0_1_n_n none (extf .f32 a0 bitsLt_bf16_f32) (extf .f32 a1 bitsLt_bf16_f32)) slices_S16384x12288_S16384x4096_0_0) (mulf (broadcastInDim S16384x4096 ![] bcast_S_S16384x4096 (constant S_ .f32 0x3D372713#32)) (mulf (mulf (extractStridedSlice S16384x4096 ![0, 0] (Host.dotGeneral dot_S16384x4096_S4096x12288_S16384x12288_1_0_0_1_n_n none (extf .f32 a0 bitsLt_bf16_f32) (extf .f32 a1 bitsLt_bf16_f32)) slices_S16384x12288_S16384x4096_0_0) (extractStridedSlice S16384x4096 ![0, 0] (Host.dotGeneral dot_S16384x4096_S4096x12288_S16384x12288_1_0_0_1_n_n none (extf .f32 a0 bitsLt_bf16_f32) (extf .f32 a1 bitsLt_bf16_f32)) slices_S16384x12288_S16384x4096_0_0)) (extractStridedSlice S16384x4096 ![0, 0] (Host.dotGeneral dot_S16384x4096_S4096x12288_S16384x12288_1_0_0_1_n_n none (extf .f32 a0 bitsLt_bf16_f32) (extf .f32 a1 bitsLt_bf16_f32)) slices_S16384x12288_S16384x4096_0_0)))))))))⟩, ⟨S16384x8192, (Host.divf (broadcastInDim S16384x8192 ![] bcast_S_S16384x8192 (constant S_ .f32 0x3F800000#32)) (addf (broadcastInDim S16384x8192 ![] bcast_S_S16384x8192 (constant S_ .f32 0x3F800000#32)) (Host.exp (Host.negf (extractStridedSlice S16384x8192 ![0, 4096] (Host.dotGeneral dot_S16384x4096_S4096x12288_S16384x12288_1_0_0_1_n_n none (extf .f32 a0 bitsLt_bf16_f32) (extf .f32 a1 bitsLt_bf16_f32)) slices_S16384x12288_S16384x8192_0_4096)))))⟩] concatenates_S16384x4096_S16384x8192_S16384x12288_d1) bitsLt_bf16_f32

/-- The reference with the kernel's form of the two activations. -/
def KREF (a0 : FVec Ideal S16384x4096 .bf16) (a1 : FVec Ideal S4096x12288 .bf16) :
    FVec Ideal S16384x12288 .bf16 := fun j =>
  if (j 1 : ℕ) < 4096 then
    Ideal.ofBits .f32 0x3F000000#32 * (∑ k : Fin 4096, a0 (ix2 (j 0) k) * a1 (ix2 k (j 1)))
      + Ideal.ofBits .f32 0x3F000000#32 * (∑ k : Fin 4096, a0 (ix2 (j 0) k) * a1 (ix2 k (j 1)))
        * Ideal.tanh ((∑ k : Fin 4096, a0 (ix2 (j 0) k) * a1 (ix2 k (j 1))) * (Ideal.ofBits .f32 0x3F4C422A#32 + (((6693141 / 8388608) * (12003091 / 268435456) : ℝ) : EReal) * ((∑ k : Fin 4096, a0 (ix2 (j 0) k) * a1 (ix2 k (j 1))) * (∑ k : Fin 4096, a0 (ix2 (j 0) k) * a1 (ix2 k (j 1))))))
  else Ideal.ofBits .f32 0x3F000000#32 + Ideal.ofBits .f32 0x3F000000#32 * Ideal.tanh (Ideal.ofBits .f32 0x3F000000#32 * (∑ k : Fin 4096, a0 (ix2 (j 0) k) * a1 (ix2 k (j 1))))

theorem kref_lo (a0 : FVec Ideal S16384x4096 .bf16) (a1 : FVec Ideal S4096x12288 .bf16) (j : S16384x12288.Idx) (h : (j 1 : ℕ) < 4096) : KREF a0 a1 j =
    Ideal.ofBits .f32 0x3F000000#32 * (∑ k : Fin 4096, a0 (ix2 (j 0) k) * a1 (ix2 k (j 1)))
      + Ideal.ofBits .f32 0x3F000000#32 * (∑ k : Fin 4096, a0 (ix2 (j 0) k) * a1 (ix2 k (j 1)))
        * Ideal.tanh ((∑ k : Fin 4096, a0 (ix2 (j 0) k) * a1 (ix2 k (j 1))) * (Ideal.ofBits .f32 0x3F4C422A#32 + (((6693141 / 8388608) * (12003091 / 268435456) : ℝ) : EReal) * ((∑ k : Fin 4096, a0 (ix2 (j 0) k) * a1 (ix2 k (j 1))) * (∑ k : Fin 4096, a0 (ix2 (j 0) k) * a1 (ix2 k (j 1)))))) := if_pos h

theorem kref_hi (a0 : FVec Ideal S16384x4096 .bf16) (a1 : FVec Ideal S4096x12288 .bf16) (j : S16384x12288.Idx) (h : ¬(j 1 : ℕ) < 4096) : KREF a0 a1 j =
    Ideal.ofBits .f32 0x3F000000#32 + Ideal.ofBits .f32 0x3F000000#32 * Ideal.tanh (Ideal.ofBits .f32 0x3F000000#32 * (∑ k : Fin 4096, a0 (ix2 (j 0) k) * a1 (ix2 k (j 1)))) := if_neg h

set_option maxHeartbeats 1600000 in
/-- On finite operands the two forms agree. -/
theorem ref_eq (a0 : FVec Ideal S16384x4096 .bf16) (a1 : FVec Ideal S4096x12288 .bf16)
    (h0 : ∀ i, a0 i ≠ ⊥ ∧ a0 i ≠ ⊤) (h1 : ∀ i, a1 i ≠ ⊥ ∧ a1 i ≠ ⊤) : REF a0 a1 = KREF a0 a1 := by
  funext j
  by_cases h : (j 1 : ℕ) < 4096
  · have hf := Cert.Scalars.sum_mul_finite Finset.univ (fun k : Fin 4096 => a0 (ix2 (j 0) k)) (fun k : Fin 4096 => a1 (ix2 k (j 1)))
      (fun k => h0 _) (fun k => h1 _)
    rw [kref_lo a0 a1 j h, Cert.Scalars.gelu _ hf.1 hf.2]
    pointwise [REF]
    rw [dif_pos h]
  · rw [kref_hi a0 a1 j h, Cert.Scalars.sigmoid]
    pointwise [REF]
    rw [dif_neg h]
    blk_point []

/-- What the precondition says of the operands. -/
theorem operands [Cert.Pre_operands_finite.Facts] (a0 : FVec Ideal S16384x4096 .bf16) (a1 : FVec Ideal S4096x12288 .bf16)
    (h : Cert.Pre_operands_finite.fn (F := Ideal) a0 a1 = fun _ => 1#1) :
    (∀ i, a0 i ≠ ⊥ ∧ a0 i ≠ ⊤) ∧ (∀ i, a1 i ≠ ⊥ ∧ a1 i ≠ ⊤) := by
  have h' := congrFun h (fun a => a.elim0)
  dsimp only [Cert.Pre_operands_finite.fn] at h'
  obtain ⟨e0, e1⟩ := IntOp.andi_eq_one.1 h'
  constructor
  · intro i
    have := Host.reduce_andi_all _ _ _ _ _ e0 i
    exact Cert.Scalars.finite_of_lt (φ := .bf16) _ (by rw [← Cert.Scalars.top_bf16]; exact this)
  · intro i
    have := Host.reduce_andi_all _ _ _ _ _ e1 i
    exact Cert.Scalars.finite_of_lt (φ := .bf16) _ (by rw [← Cert.Scalars.top_bf16]; exact this)

end Cert.InRestRefIdeal.Value

namespace Cert.InRestIdeal.Value

open Cert.InRestIdeal Cert.InRestIdeal.Gen
open Cert.InRestRefIdeal.Value (REF KREF kref_lo kref_hi)

variable (m : (ℓ : Loc nD τ sig) → Buf (Elt Ideal) ℓ)

/-- The block of every window at a grid point. -/
theorem idx_val : ∀ t : Fin cfg0.N, win0_0.index t = ![t.val / 12, 0]
    ∧ win0_1.index t = ![0, t.val % 12]
    ∧ win0_2.index t = ![t.val / 12, t.val % 12] :=
  (by decide +kernel : ∀ t : Fin grid0.N, _)

/-- What the kernel's folded constant is read as. -/
theorem named_val : (Named.named κ "sqrt_2_pi_cubic" 0x3D122279#32 : Ideal .f32) = (((6693141 / 8388608) * (12003091 / 268435456) : ℝ) : EReal) :=
  IdealRules.named_const.ideal_named_scalar _ _ _ _ rfl

set_option maxHeartbeats 3200000 in
/-- POINT, in the columns of the gelu. -/
theorem pointA (c : Dev nD) (t : Fin cfg0.N) (h0 : t.val % 12 ≤ 3) (h1 : ¬4 ≤ t.val % 12) (y) :
    outsAt0 m c t.val t.isLt y = KREF (m ((c : Thread nD τ).loc main_arg0)) (m ((c : Thread nD τ).loc main_arg1)) (((cfg0.win 2).blk t).view.emb y) := by
  rw [outsAt0_A m c t h0 h1]; frame_out
  have hv := h0
  clear h0 h1
  canon_tiles x h
  all_goals
    rw [kref_lo _ _ _ (by blk_simp [idx_val t] <;> omega)]
    open_payloads; pointwise [named_val]; blk_point [iblk, V, idx_val t]

set_option maxHeartbeats 3200000 in
/-- POINT, in the columns of the sigmoid. -/
theorem pointB (c : Dev nD) (t : Fin cfg0.N) (h0 : ¬t.val % 12 ≤ 3) (h1 : 4 ≤ t.val % 12) (y) :
    outsAt0 m c t.val t.isLt y = KREF (m ((c : Thread nD τ).loc main_arg0)) (m ((c : Thread nD τ).loc main_arg1)) (((cfg0.win 2).blk t).view.emb y) := by
  rw [outsAt0_B m c t h0 h1]; frame_out
  have hv := h1
  clear h0 h1
  canon_tiles x h
  all_goals
    rw [kref_hi _ _ _ (by blk_simp [idx_val t] <;> omega)]
    open_payloads; pointwise; blk_point [iblk, V, idx_val t]

/-- BRIDGE: the result array after the run. -/
theorem final (c : Dev nD) : (dats m 0 c).arrAt 2 (cfgs 0).N = KREF (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 12 ≤ 3
  · exact pointA m c t h (by omega) y
  · exact pointB m c t h (by omega) y

end Cert.InRestIdeal.Value

end
-- ==== Proof.InQkvValue.lean ====
module

public import proofs.«01_k».proof.Proof.Gen.InQkvIdeal.Frame
public import proofs.«01_k».proof.Proof.Gen.InQkvIdeal.Value
public import proofs.«01_k».proof.Proof.Gen.InQkvRefIdeal.Run
public import Idealize.ShloMosaic.Lib.Pipeline.ValueKit

@[expose] public section

/-! The value of the `InQkv` call: what the kernel leaves in its result array is what the reference returns. -/

set_option maxRecDepth 16384

noncomputable section

open Idealize.ShloMosaic Idealize.ShloMosaic.TcCoe Idealize.SL.Sem
open Idealize.ShloMosaic.Pipeline (Dat)

namespace Cert.InQkvRefIdeal.Value

open Cert.InQkvRefIdeal Cert.InQkvRefIdeal.Gen

/-- The rotation of the columns of one projection. -/
def rot (x : FVec Ideal S16384x2048 .f32) (a2 : FVec Ideal S8192x64 .f32) (a3 : FVec Ideal S8192x64 .f32) : FVec Ideal S16384x2048 .f32 :=
  shapeCast S16384x2048 (concatenate S2x8192x16x128 3 [
    ⟨S2x8192x16x64, subf
      (mulf (extractStridedSlice S2x8192x16x64 ![0, 0, 0, 0] (shapeCast S2x8192x16x128 x shapeCasts_S16384x2048_S2x8192x16x128) slices_S2x8192x16x128_S2x8192x16x64_0_0_0_0)
        (broadcastInDim S2x8192x16x64 ![0, 1, 2, 3] bcast_S1x8192x1x64_S2x8192x16x64_0_1_2_3 (broadcastInDim S1x8192x1x64 ![1, 3] bcast_S8192x64_S1x8192x1x64_1_3 a2)))
      (mulf (extractStridedSlice S2x8192x16x64 ![0, 0, 0, 64] (shapeCast S2x8192x16x128 x shapeCasts_S16384x2048_S2x8192x16x128) slices_S2x8192x16x128_S2x8192x16x64_0_0_0_64)
        (broadcastInDim S2x8192x16x64 ![0, 1, 2, 3] bcast_S1x8192x1x64_S2x8192x16x64_0_1_2_3 (broadcastInDim S1x8192x1x64 ![1, 3] bcast_S8192x64_S1x8192x1x64_1_3 a3)))⟩,
    ⟨S2x8192x16x64, addf
      (mulf (extractStridedSlice S2x8192x16x64 ![0, 0, 0, 64] (shapeCast S2x8192x16x128 x shapeCasts_S16384x2048_S2x8192x16x128) slices_S2x8192x16x128_S2x8192x16x64_0_0_0_64)
        (broadcastInDim S2x8192x16x64 ![0, 1, 2, 3] bcast_S1x8192x1x64_S2x8192x16x64_0_1_2_3 (broadcastInDim S1x8192x1x64 ![1, 3] bcast_S8192x64_S1x8192x1x64_1_3 a2)))
      (mulf (extractStridedSlice S2x8192x16x64 ![0, 0, 0, 0] (shapeCast S2x8192x16x128 x shapeCasts_S16384x2048_S2x8192x16x128) slices_S2x8192x16x128_S2x8192x16x64_0_0_0_0)
        (broadcastInDim S2x8192x16x64 ![0, 1, 2, 3] bcast_S1x8192x1x64_S2x8192x16x64_0_1_2_3 (broadcastInDim S1x8192x1x64 ![1, 3] bcast_S8192x64_S1x8192x1x64_1_3 a3)))⟩]
    concatenates_S2x8192x16x64_S2x8192x16x64_S2x8192x16x128_d3) shapeCasts_S2x8192x16x128_S16384x2048

/-- The product of the input projection. -/
def prod (a0 : FVec Ideal S16384x4096 .bf16) (a1 : FVec Ideal S4096x6144 .bf16) : FVec Ideal S16384x6144 .f32 :=
  Host.dotGeneral dot_S16384x4096_S4096x6144_S16384x6144_1_0_0_1_n_n none (extf .f32 a0 bitsLt_bf16_f32) (extf .f32 a1 bitsLt_bf16_f32)

/-- What the reference returns, as one term over its arguments. -/
def REF (a0 : FVec Ideal S16384x4096 .bf16) (a1 : FVec Ideal S4096x6144 .bf16) (a2 : FVec Ideal S8192x64 .f32) (a3 : FVec Ideal S8192x64 .f32) : FVec Ideal S16384x6144 .bf16 :=
  truncf .bf16 (concatenate S16384x6144 1 [
    ⟨S16384x2048, mulf (rot (extractStridedSlice S16384x2048 ![0, 0] (prod a0 a1) slices_S16384x6144_S16384x2048_0_0) a2 a3)
      (broadcastInDim S16384x2048 ![] bcast_S_S16384x2048 (constant S_ .f32 0x3E0293EE#32))⟩,
    ⟨S16384x2048, rot (extractStridedSlice S16384x2048 ![0, 2048] (prod a0 a1) slices_S16384x6144_S16384x2048_0_2048) a2 a3⟩,
    ⟨S16384x2048, extractStridedSlice S16384x2048 ![0, 4096] (prod a0 a1) slices_S16384x6144_S16384x2048_0_4096⟩]
    concatenates_S16384x2048_S16384x2048_S16384x2048_S16384x6144_d1) bitsLt_bf16_f32

theorem res_eq (m : (ℓ : Loc nD τ sig) → Buf (Elt Ideal) ℓ) (c : Dev nD) :
    res_main_v43 m c = REF (m ((c.tc : Thread nD τ).loc main_arg0)) (m ((c.tc : Thread nD τ).loc main_arg1)) (m ((c.tc : Thread nD τ).loc main_arg2)) (m ((c.tc : Thread nD τ).loc main_arg3)) := rfl

/-- The column of the other half of a head. -/
def swap (C : ℕ) : ℕ := C / 128 * 128 + (C % 128 + 64) % 128

/-- The cosine of a row at a lane of a head. -/
def cosAt (a2 : FVec Ideal S8192x64 .f32) (R : ℕ) (l : ℕ) : EReal := a2 (ix2 ⟨R % 8192, by omega⟩ ⟨l % 64, by omega⟩)

/-- The signed sine of a row at a lane of a head. -/
def sinAt (a3 : FVec Ideal S8192x64 .f32) (R : ℕ) (l : ℕ) : EReal :=
  if l % 128 < 64 then -(show EReal from a3 (ix2 ⟨R % 8192, by omega⟩ ⟨l % 64, by omega⟩)) else a3 (ix2 ⟨R % 8192, by omega⟩ ⟨l % 64, by omega⟩)

/-- The rotation at an index. -/
theorem rot_at (x : FVec Ideal S16384x2048 .f32) (a2 a3 : FVec Ideal S8192x64 .f32) (R : Fin 16384) (C : Fin 2048) :
    rot x a2 a3 (ix2 R C) = (show EReal from x (ix2 R C)) * cosAt a2 R C + x (ix2 R ⟨swap C, by simp only [swap]; omega⟩) * sinAt a3 R C := by
  have hC := C.isLt
  by_cases h : (C : ℕ) % 128 < 64
  · rw [sinAt, if_pos h, mul_neg, ← sub_eq_add_neg]
    pointwise [rot, cosAt]
    rw [dif_pos h]
    have e1 : (C : ℕ) / 128 * 128 + (64 + C % 128) = swap C := by simp only [swap]; omega
    have e2 : (C : ℕ) % 128 = C % 64 := by omega
    simp only [e1]
    simp only [e2]
  · rw [sinAt, if_neg h]
    pointwise [rot, cosAt]
    rw [dif_neg h]
    have e0 : (C : ℕ) / 128 * 128 + (64 + (C % 128 - 64)) = C := by omega
    have e1 : (C : ℕ) / 128 * 128 + (C % 128 - 64) = swap C := by simp only [swap]; omega
    have e2 : (C : ℕ) % 128 - 64 = C % 64 := by omega
    simp only [e0, e1]
    simp only [e2]

/-- The product at an index. -/
theorem prod_at (a0 : FVec Ideal S16384x4096 .bf16) (a1 : FVec Ideal S4096x6144 .bf16) (R : Fin 16384) (C : Fin 6144) :
    prod a0 a1 (ix2 R C) = ∑ l : Fin 4096, (show EReal from a0 (ix2 R l)) * a1 (ix2 l C) := by
  pointwise [prod]

theorem cosAt_congr (a2 : FVec Ideal S8192x64 .f32) (R k l : ℕ) (h : k % 128 = l % 128) : cosAt a2 R k = cosAt a2 R l := by
  have e : k % 64 = l % 64 := by omega
  simp only [cosAt, e]

theorem sinAt_congr (a2 : FVec Ideal S8192x64 .f32) (R k l : ℕ) (h : k % 128 = l % 128) : sinAt a2 R k = sinAt a2 R l := by
  have e : k % 64 = l % 64 := by omega
  simp only [sinAt, h, e]

theorem swap_lt (n : ℕ) {k : ℕ} (h : k < 128 * n) : swap k < 128 * n := by simp only [swap]; omega

theorem swap_sub (n : ℕ) {k : ℕ} (h : 128 * n ≤ k) : 128 * n + swap (k - 128 * n) = swap k := by simp only [swap]; omega

/-- The rotated product. -/
def roped (a0 : FVec Ideal S16384x4096 .bf16) (a1 : FVec Ideal S4096x6144 .bf16) (a2 a3 : FVec Ideal S8192x64 .f32) (R : Fin 16384) (C : Fin 6144) : EReal :=
  (show EReal from prod a0 a1 (ix2 R C)) * cosAt a2 R C + prod a0 a1 (ix2 R ⟨swap C, swap_lt 48 C.isLt⟩) * sinAt a3 R C

/-- The reference's query columns. -/
theorem ref_q (a0 : FVec Ideal S16384x4096 .bf16) (a1 : FVec Ideal S4096x6144 .bf16) (a2 a3 : FVec Ideal S8192x64 .f32) (R : Fin 16384) (C : Fin 6144)
    (h : (C : ℕ) < 2048) : REF a0 a1 a2 a3 (ix2 R C) = roped a0 a1 a2 a3 R C * Ideal.ofBits .f32 0x3E0293EE#32 := by
  pointwise [REF]
  simp only [h, dif_pos, rot_at]
  pointwise [roped]

/-- The reference's key columns. -/
theorem ref_k (a0 : FVec Ideal S16384x4096 .bf16) (a1 : FVec Ideal S4096x6144 .bf16) (a2 a3 : FVec Ideal S8192x64 .f32) (R : Fin 16384) (C : Fin 6144)
    (h : 2048 ≤ (C : ℕ)) (h' : (C : ℕ) < 4096) : REF a0 a1 a2 a3 (ix2 R C) = roped a0 a1 a2 a3 R C := by
  pointwise [REF]
  rw [dif_neg (by omega), dif_pos (by omega), rot_at]
  pointwise [roped]
  have e0 : 2048 + ((C : ℕ) - 2048) = C := by omega
  have e1 : 2048 + swap ((C : ℕ) - 2048) = swap C := swap_sub 16 h
  rw [cosAt_congr a2 R (C - 2048) C (by omega), sinAt_congr a3 R (C - 2048) C (by omega)]
  simp only [e0, e1]

/-- The reference's value columns. -/
theorem ref_v (a0 : FVec Ideal S16384x4096 .bf16) (a1 : FVec Ideal S4096x6144 .bf16) (a2 a3 : FVec Ideal S8192x64 .f32) (R : Fin 16384) (C : Fin 6144)
    (h : 4096 ≤ (C : ℕ)) : REF a0 a1 a2 a3 (ix2 R C) = prod a0 a1 (ix2 R C) := by
  pointwise [REF]
  rw [dif_neg (by omega), dif_neg (by omega)]
  have e0 : 4096 + ((C : ℕ) - 2048 - 2048) = C := by omega
  simp only [e0]

end Cert.InQkvRefIdeal.Value

namespace Cert.InQkvIdeal.Value

open Cert.InQkvIdeal Cert.InQkvIdeal.Gen
open Cert.InQkvRefIdeal.Value (REF swap swap_lt cosAt sinAt prod prod_at roped ref_q ref_k ref_v)

variable (m : (ℓ : Loc nD τ sig) → Buf (Elt Ideal) ℓ)

/-- The product's block. -/
def zb (x0 : Vec Ideal S1024x4096 .bf16) (x1 : Vec Ideal S4096x1024 .bf16) (r k : Fin 1024) : EReal :=
  ∑ l : Fin 4096, (show EReal from x0 (ix2 r l)) * x1 (ix2 l k)

/-- The other half's column in a block. -/
def sw (k : Fin 1024) : Fin 1024 := ⟨swap k, by simp only [swap]; omega⟩

/-- The block rotated. -/
def kr (x0 : Vec Ideal S1024x4096 .bf16) (x1 : Vec Ideal S4096x1024 .bf16) (x2 x3 : Vec Ideal S1024x128 .f32) (r k : Fin 1024) : EReal :=
  zb x0 x1 r k * x2 (ix2 r ⟨k % 128, by omega⟩) + zb x0 x1 r (sw k) * x3 (ix2 r ⟨k % 128, by omega⟩)

set_option maxHeartbeats 3200000 in
theorem outA (c : Dev nD) (t : Fin cfg0.N) (hc0 hc1 hc2)
    (x0 : Vec Ideal S1024x4096 .bf16) (x1 : Vec Ideal S4096x1024 .bf16) (x2 : Vec Ideal S1024x128 .f32) (x3 : Vec Ideal S1024x128 .f32) (y : S1024x1024.Idx) :
    out0_A_4 (F := Ideal) c (grid0.coords t) (ms0_0 t) (hs0_0 t) (ms0_1 t) (hs0_1 t) (ms0_2 t) (hs0_2 t) (ms0_3 t) (hs0_3 t) (ms0_4 t) (hs0_4 t) hc0 hc1 hc2 x0 x1 x2 x3 y = kr x0 x1 x2 x3 (y 0) (y 1) * Ideal.ofBits .f32 0x3E0293EE#32 := by
  frame_out
  clear hc0 hc1 hc2
  canon_tiles x h
  all_goals (open_payloads; pointwise [kr, zb, sw])
  all_goals (split <;> blk_point [swap] <;> omega)

set_option maxHeartbeats 3200000 in
theorem outB (c : Dev nD) (t : Fin cfg0.N) (hc0 hc1 hc2)
    (x0 : Vec Ideal S1024x4096 .bf16) (x1 : Vec Ideal S4096x1024 .bf16) (x2 : Vec Ideal S1024x128 .f32) (x3 : Vec Ideal S1024x128 .f32) (y : S1024x1024.Idx) :
    out0_B_4 (F := Ideal) c (grid0.coords t) (ms0_0 t) (hs0_0 t) (ms0_1 t) (hs0_1 t) (ms0_2 t) (hs0_2 t) (ms0_3 t) (hs0_3 t) (ms0_4 t) (hs0_4 t) hc0 hc1 hc2 x0 x1 x2 x3 y = kr x0 x1 x2 x3 (y 0) (y 1) := by
  frame_out
  clear hc0 hc1 hc2
  canon_tiles x h
  all_goals (open_payloads; pointwise [kr, zb, sw])
  all_goals (split <;> blk_point [swap] <;> omega)

set_option maxHeartbeats 3200000 in
theorem outC (c : Dev nD) (t : Fin cfg0.N) (hc0 hc1 hc2)
    (x0 : Vec Ideal S1024x4096 .bf16) (x1 : Vec Ideal S4096x1024 .bf16) (x2 : Vec Ideal S1024x128 .f32) (x3 : Vec Ideal S1024x128 .f32) (y : S1024x1024.Idx) :
    out0_C_4 (F := Ideal) c (grid0.coords t) (ms0_0 t) (hs0_0 t) (ms0_1 t) (hs0_1 t) (ms0_2 t) (hs0_2 t) (ms0_3 t) (hs0_3 t) (ms0_4 t) (hs0_4 t) hc0 hc1 hc2 x0 x1 x2 x3 y = zb x0 x1 (y 0) (y 1) := by
  frame_out
  clear hc0 hc1 hc2
  canon_tiles x h
  all_goals (open_payloads; pointwise [zb])
  all_goals blk_point []

/-- The block of every window at a grid point. -/
theorem idx_val : ∀ t : Fin cfg0.N, win0_0.index t = ![t.val / 6, 0]
    ∧ win0_1.index t = ![0, t.val % 6]
    ∧ win0_2.index t = ![t.val / 6 % 8, 0]
    ∧ win0_3.index t = ![t.val / 6 % 8, 0]
    ∧ win0_4.index t = ![t.val / 6, t.val % 6] :=
  (by decide +kernel : ∀ t : Fin grid0.N, _)

/-- The cosine table at an index. -/
theorem cos_tab (c : Dev nD) (a : Fin 8192) (b : Fin 128) (R k : ℕ) (ha : (a : ℕ) = R % 8192) (hb : (b : ℕ) = k % 128) :
    V m c main_v0 (ix2 a b) = cosAt (m ((c : Thread nD τ).loc main_arg2)) R k := by
  have e : a = ⟨R % 8192, Nat.mod_lt _ (by decide)⟩ := Fin.ext ha
  entry_read
  pointwise [cosAt]
  subst e
  split
  · have e1 : (b : ℕ) = k % 64 := by omega
    simp only [e1]
  · have e1 : (b : ℕ) - 64 = k % 64 := by omega
    simp only [e1]

/-- The signed sine table at an index. -/
theorem sin_tab (c : Dev nD) (a : Fin 8192) (b : Fin 128) (R k : ℕ) (ha : (a : ℕ) = R % 8192) (hb : (b : ℕ) = k % 128) :
    V m c main_v2 (ix2 a b) = sinAt (m ((c : Thread nD τ).loc main_arg3)) R k := by
  have e : a = ⟨R % 8192, Nat.mod_lt _ (by decide)⟩ := Fin.ext ha
  entry_read
  pointwise [sinAt]
  subst e
  rw [← hb]
  split
  · have e1 : (b : ℕ) = k % 64 := by omega
    simp only [e1]
  · have e1 : (b : ℕ) - 64 = k % 64 := by omega
    simp only [e1]

theorem cos_blk (c : Dev nD) (t : Fin cfg0.N) (r : Fin 1024) (l : Fin 128) (R k : ℕ)
    (hR : R = 1024 * (t.val / 6) + r) (hk : (l : ℕ) = k % 128) :
    (iblk m c 2 t : Vec Ideal S1024x128 .f32) (ix2 r l) = cosAt (m ((c : Thread nD τ).loc main_arg2)) R k := by
  have hr := r.isLt
  refine Eq.trans ?_ (cos_tab m c ⟨R % 8192, by omega⟩ l R k rfl hk)
  blk_point [iblk, idx_val t]

theorem sin_blk (c : Dev nD) (t : Fin cfg0.N) (r : Fin 1024) (l : Fin 128) (R k : ℕ)
    (hR : R = 1024 * (t.val / 6) + r) (hk : (l : ℕ) = k % 128) :
    (iblk m c 3 t : Vec Ideal S1024x128 .f32) (ix2 r l) = sinAt (m ((c : Thread nD τ).loc main_arg3)) R k := by
  have hr := r.isLt
  refine Eq.trans ?_ (sin_tab m c ⟨R % 8192, by omega⟩ l R k rfl hk)
  blk_point [iblk, idx_val t]

/-- The product's block is the reference's product. -/
theorem zb_blk (c : Dev nD) (t : Fin cfg0.N) (r k : Fin 1024) (R : Fin 16384) (C : Fin 6144)
    (hR : (R : ℕ) = 1024 * (t.val / 6) + r) (hC : (C : ℕ) = 1024 * (t.val % 6) + k) :
    zb (iblk m c 0 t) (iblk m c 1 t) r k = prod (m ((c : Thread nD τ).loc main_arg0)) (m ((c : Thread nD τ).loc main_arg1)) (ix2 R C) := by
  rw [zb, prod_at]
  refine Finset.sum_congr rfl fun l _ => ?_
  have e0 : (iblk m c 0 t : Vec Ideal S1024x4096 .bf16) (ix2 r l) = (m ((c : Thread nD τ).loc main_arg0)) (ix2 R l) := by
    blk_point [iblk, V, idx_val t]
  have e1 : (iblk m c 1 t : Vec Ideal S4096x1024 .bf16) (ix2 l k) = (m ((c : Thread nD τ).loc main_arg1)) (ix2 l C) := by
    blk_point [iblk, V, idx_val t]
  exact congrArg₂ (fun a b : EReal => a * b) e0 e1

/-- The rotated block is the reference's. -/
theorem kr_blk (c : Dev nD) (t : Fin cfg0.N) (r k : Fin 1024) (R : Fin 16384) (C : Fin 6144)
    (hR : (R : ℕ) = 1024 * (t.val / 6) + r) (hC : (C : ℕ) = 1024 * (t.val % 6) + k) :
    kr (iblk m c 0 t) (iblk m c 1 t) (iblk m c 2 t) (iblk m c 3 t) r k = roped (m ((c : Thread nD τ).loc main_arg0)) (m ((c : Thread nD τ).loc main_arg1)) (m ((c : Thread nD τ).loc main_arg2)) (m ((c : Thread nD τ).loc main_arg3)) R C := by
  rw [kr, roped, zb_blk m c t r k R C hR hC, zb_blk m c t r (sw k) R ⟨swap C, swap_lt 48 C.isLt⟩ hR (by simp only [sw, swap]; omega),
    cos_blk m c t r _ R C hR (by dsimp only; omega), sin_blk m c t r _ R C hR (by dsimp only; omega)]

/-- What a point leaves is the reference's block. -/
theorem point (c : Dev nD) (t : Fin cfg0.N) (r k : Fin 1024) (R : Fin 16384) (C : Fin 6144)
    (hR : (R : ℕ) = 1024 * (t.val / 6) + r) (hC : (C : ℕ) = 1024 * (t.val % 6) + k) :
    (outsAt0 m c t.val t.isLt : Vec Ideal S1024x1024 .bf16) (ix2 r k) = REF (m ((c : Thread nD τ).loc main_arg0)) (m ((c : Thread nD τ).loc main_arg1)) (m ((c : Thread nD τ).loc main_arg2)) (m ((c : Thread nD τ).loc main_arg3)) (ix2 R C) := by
  have hk := k.isLt
  by_cases h0 : t.val % 6 ≤ 1
  · refine (congrFun (outsAt0_A m c t h0 (by omega) (by omega)) (ix2 r k)).trans ?_
    refine (outA c t _ _ _ _ _ _ _ (ix2 r k)).trans ?_
    refine Eq.trans ?_ (ref_q _ _ _ _ R C (by omega)).symm
    exact congrArg (· * Ideal.ofBits .f32 0x3E0293EE#32) (kr_blk m c t r k R C hR hC)
  by_cases h1 : t.val % 6 ≤ 3
  · refine (congrFun (outsAt0_B m c t h0 (by omega) (by omega)) (ix2 r k)).trans ?_
    refine (outB c t _ _ _ _ _ _ _ (ix2 r k)).trans ?_
    exact (kr_blk m c t r k R C hR hC).trans (ref_k _ _ _ _ R C (by omega) (by omega)).symm
  · refine (congrFun (outsAt0_C m c t h0 (by omega) (by omega)) (ix2 r k)).trans ?_
    refine (outC c t _ _ _ _ _ _ _ (ix2 r k)).trans ?_
    exact (zb_blk m c t r k R C hR hC).trans (ref_v _ _ _ _ R C (by omega)).symm

theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  obtain ⟨r, k, rfl⟩ : ∃ (r : Fin 1024) (k : Fin 1024), y = ix2 r k := ⟨y 0, y 1, eq_ix2 (n0 := 1024) (n1 := 1024) y⟩
  have hr := r.isLt
  have hk := k.isLt
  have ht : t.val < 96 := t.isLt
  refine (point m c t r k ⟨1024 * (t.val / 6) + r, by omega⟩ ⟨1024 * (t.val % 6) + k, by omega⟩ rfl rfl).trans ?_
  generalize REF _ _ _ _ = f
  refine congrArg f ?_
  blk_point [idx_val t]

end Cert.InQkvIdeal.Value

end
-- ==== Proof.SguValue.lean ====
module

public import proofs.«01_k».proof.Proof.Gen.SguIdeal.Frame
public import proofs.«01_k».proof.Proof.Gen.SguIdeal.Value
public import proofs.«01_k».proof.Proof.Gen.SguRefIdeal.Run
public import Idealize.ShloMosaic.Lib.Pipeline.ValueKit
public import Idealize.ShloMosaic.Lib.Pipeline.ReadBack

@[expose] public section

/-! The value of the `Sgu` call: what the kernel leaves in its result array is what the reference returns. -/

set_option maxRecDepth 16384

noncomputable section

open Idealize.ShloMosaic Idealize.ShloMosaic.TcCoe Idealize.SL.Sem
open Idealize.ShloMosaic.Pipeline (Dat)

namespace Cert.Sgu

/-- The mean of a row. -/
def mean (x : Fin 2048 → EReal) : EReal := Ideal.div (∑ l : Fin 2048, x l) (Ideal.ofBits .f32 0x45000000#32)

/-- A row with its mean taken off, divided by its deviation, scaled and shifted. -/
def lnorm (x g b : Fin 2048 → EReal) (k : Fin 2048) : EReal :=
  (x k - mean x) * Ideal.rsqrt (Ideal.div (∑ l : Fin 2048, (x l - mean x) * (x l - mean x)) (Ideal.ofBits .f32 0x45000000#32) + Ideal.ofBits .f32 0x3727C5AC#32) * g k + b k

/-- The column's group. -/
def grp (C : Fin 2048) : Fin 16 := ⟨C.val / 128, by omega⟩

/-- An entry of the gated rows: `u` the entry's own gate, `w` the weights of the entry's position, `v` the column of the chunk. -/
def gated (u : EReal) (w v : Fin 128 → EReal) (p : Fin 128) (bias : EReal) : EReal :=
  u * (∑ s : Fin 128, (if s.val ≤ p.val then w s else 0) * v s + bias)

/-- Selecting by the order of two positions. -/
theorem sel_le {α : Type} (p s : Fin 128) (x y : α) :
    Scalar.select (IntOp.cmpi .sle (BitVec.ofNat 32 s.val) (BitVec.ofNat 32 p.val)) x y = if s.val ≤ p.val then x else y := by
  have hp := p.isLt
  have hs := s.isLt
  rw [WordCmp.cmpi_sle_ofNat (by omega) (by omega), WordCmp.select_ofBool]
  simp

/-- The same with the comparison turned about. -/
theorem sel_ge {α : Type} (p s : Fin 128) (x y : α) :
    Scalar.select (IntOp.cmpi .sge (IntOp.addi (BitVec.ofNat 32 p.val) 0#32) (BitVec.ofNat 32 s.val)) x y = if s.val ≤ p.val then x else y := by
  have hp := p.isLt
  have hs := s.isLt
  have h0 : IntOp.addi (BitVec.ofNat 32 p.val) 0#32 = BitVec.ofNat 32 p.val := BitVec.add_zero _
  rw [h0, WordCmp.cmpi_sge_ofNat (by omega) (by omega), WordCmp.select_ofBool]
  simp

end Cert.Sgu

namespace Cert.SguRefIdeal.Value

open Cert.SguRefIdeal Cert.SguRefIdeal.Gen Cert.Sgu

/-- The columns that are normalised. -/
def vsel (a0 : FVec Ideal S16384x12288 .bf16) : FVec Ideal S2x8192x2048 .f32 :=
  shapeCast S2x8192x2048 (extractStridedSlice S16384x2048 ![0, 2048] (extf .f32 a0 bitsLt_bf16_f32) slices_S16384x12288_S16384x2048_0_2048) shapeCasts_S16384x2048_S2x8192x2048

/-- The columns that gate. -/
def usel (a0 : FVec Ideal S16384x12288 .bf16) : FVec Ideal S2x8192x2048 .f32 :=
  shapeCast S2x8192x2048 (extractStridedSlice S16384x2048 ![0, 0] (extf .f32 a0 bitsLt_bf16_f32) slices_S16384x12288_S16384x2048_0_0) shapeCasts_S16384x2048_S2x8192x2048

/-- The rows' means. -/
def mean3 (x : FVec Ideal S2x8192x2048 .f32) : FVec Ideal S2x8192x1 .f32 :=
  Host.divf (broadcastInDim S2x8192x1 ![0, 1] bcast_S2x8192_S2x8192x1_0_1 (Host.reduceAdd x (constant S_ .f32 0x00000000#32) reducesTo_S2x8192x2048_S2x8192_d2 h_S_)) (broadcastInDim S2x8192x1 ![] bcast_S_S2x8192x1 (constant S_ .f32 0x45000000#32))

/-- The rows less their means. -/
def dev3 (x : FVec Ideal S2x8192x2048 .f32) : FVec Ideal S2x8192x2048 .f32 :=
  subf x (broadcastInDim S2x8192x2048 ![0, 1, 2] bcast_S2x8192x1_S2x8192x2048_0_1_2 (mean3 x))

/-- The rows normalised, scaled and shifted. -/
def ln3 (d : FVec Ideal S2x8192x2048 .f32) (a1 a2 : FVec Ideal S2048 .f32) : FVec Ideal S2x8192x2048 .f32 :=
  addf (mulf (mulf d (broadcastInDim S2x8192x2048 ![0, 1, 2] bcast_S2x8192x1_S2x8192x2048_0_1_2 (Host.rsqrt (addf (mean3 (mulf d d)) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![2] bcast_S2048_S1x1x2048_2 a1))) (broadcastInDim S2x8192x2048 ![0, 1, 2] bcast_S1x1x2048_S2x8192x2048_0_1_2 (broadcastInDim S1x1x2048 ![2] bcast_S2048_S1x1x2048_2 a2))

/-- The lower triangle of ones. -/
def tril : FVec Ideal S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))

/-- The weights under a mask. -/
def wmask (a3 : FVec Ideal S16x128x128 .f32) (z : FVec Ideal S128x128 .f32) : FVec Ideal S16x128x128 .f32 :=
  mulf a3 (broadcastInDim S16x128x128 ![0, 1, 2] bcast_S1x128x128_S16x128x128_0_1_2 (broadcastInDim S1x128x128 ![1, 2] bcast_S128x128_S1x128x128_1_2 z))

/-- The rows of a chunk mixed within each group, with the bias. -/
def mix (v : FVec Ideal S2x8192x2048 .f32) (w : FVec Ideal S16x128x128 .f32) (a4 : FVec Ideal S16x128 .f32) : FVec Ideal S2x64x128x16x128 .f32 :=
  addf (transpose S2x64x128x16x128 [1, 2, 4, 0, 3] (Host.dotGeneral dot_S2x64x128x16x128_S16x128x128_S16x2x64x128x128_2_2_014_1_3_0 none (shapeCast S2x64x128x16x128 v shapeCasts_S2x8192x2048_S2x64x128x16x128) w) transposes_S16x2x64x128x128_S2x64x128x16x128_1_2_4_0_3) (broadcastInDim S2x64x128x16x128 ![0, 1, 2, 3, 4] bcast_S1x1x128x16x1_S2x64x128x16x128_0_1_2_3_4 (broadcastInDim S1x1x128x16x1 ![2, 3] bcast_S128x16_S1x1x128x16x1_2_3 (transpose S128x16 [1, 0] a4 transposes_S16x128_S128x16_1_0)))

/-- What the reference returns. -/
def REF (a0 : FVec Ideal S16384x12288 .bf16) (a1 a2 : FVec Ideal S2048 .f32) (a3 : FVec Ideal S16x128x128 .f32) (a4 : FVec Ideal S16x128 .f32) : FVec Ideal S16384x2048 .bf16 :=
  truncf .bf16 (shapeCast S16384x2048 (mulf (usel a0) (shapeCast S2x8192x2048 (mix (ln3 (dev3 (vsel a0)) a1 a2) (wmask a3 tril) a4) shapeCasts_S2x64x128x16x128_S2x8192x2048)) shapeCasts_S2x8192x2048_S16384x2048) bitsLt_bf16_f32

theorem res_eq (m : (ℓ : Loc nD τ sig) → Buf (Elt Ideal) ℓ) (c : Dev nD) :
    res_main_v44 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem vsel_at (a0 : FVec Ideal S16384x12288 .bf16) (b : Fin 2) (i : Fin 8192) (k : Fin 2048) (R : Fin 16384) (K : Fin 12288) (hR : R.val = b.val * 8192 + i.val) (hK : K.val = 2048 + k.val) :
    vsel a0 (ix3 b i k) = (show EReal from a0 (ix2 R K)) := by
  pointwise [vsel]
  exact congrArg₂ (fun R K => a0 (ix2 R K)) (Fin.ext hR.symm) (Fin.ext hK.symm)

theorem usel_at (a0 : FVec Ideal S16384x12288 .bf16) (b : Fin 2) (i : Fin 8192) (k : Fin 2048) (R : Fin 16384) (K : Fin 12288) (hR : R.val = b.val * 8192 + i.val) (hK : K.val = k.val) :
    usel a0 (ix3 b i k) = (show EReal from a0 (ix2 R K)) := by
  pointwise [usel]
  exact congrArg₂ (fun R K => a0 (ix2 R K)) (Fin.ext hR.symm) (Fin.ext hK.symm)

theorem mean3_at (x : FVec Ideal S2x8192x2048 .f32) (b : Fin 2) (i : Fin 8192) :
    mean3 x (ix3 b i (0 : Fin 1)) = (show EReal from mean fun k => x (ix3 b i k)) := by
  pointwise [mean3, mean]

theorem dev3_at (x : FVec Ideal S2x8192x2048 .f32) (b : Fin 2) (i : Fin 8192) (k : Fin 2048) :
    dev3 x (ix3 b i k) = (show EReal from x (ix3 b i k)) - mean fun k => x (ix3 b i k) := by
  pointwise [dev3, mean3_at]

theorem ln3_at (x : FVec Ideal S2x8192x2048 .f32) (a1 a2 : FVec Ideal S2048 .f32) (b : Fin 2) (i : Fin 8192) (k : Fin 2048) :
    ln3 (dev3 x) a1 a2 (ix3 b i k) = (show EReal from lnorm (fun k => x (ix3 b i k)) (fun k => a1 (ix1 k)) (fun k => a2 (ix1 k)) k) := by
  pointwise [ln3, mean3_at, dev3_at, lnorm, mean]

theorem tril_at (p s : Fin 128) : tril (ix2 p s) = (show EReal from if s.val ≤ p.val then 1 else 0) := by
  pointwise [tril]
  exact sel_ge p s _ _

theorem wmask_at (a3 : FVec Ideal S16x128x128 .f32) (g : Fin 16) (p s : Fin 128) :
    wmask a3 tril (ix3 g p s) = (show EReal from if s.val ≤ p.val then a3 (ix3 g p s) else 0) := by
  have h : wmask a3 tril (ix3 g p s) = (show EReal from a3 (ix3 g p s)) * (show EReal from tril (ix2 p s)) := by
    generalize tril = z
    pointwise [wmask]
  rw [h, tril_at]
  show (show EReal from a3 (ix3 g p s)) * (if s.val ≤ p.val then (1 : EReal) else 0) = _
  split <;> simp

theorem mix_at (v : FVec Ideal S2x8192x2048 .f32) (w : FVec Ideal S16x128x128 .f32) (a4 : FVec Ideal S16x128 .f32) (b : Fin 2) (ch : Fin 64) (p : Fin 128) (g : Fin 16) (d : Fin 128) :
    mix v w a4 (ix5 b ch p g d) = (∑ s : Fin 128, (show EReal from w (ix3 g p s)) * v (ix3 b (⟨ch.val * 128 + s.val, by omega⟩ : Fin 8192) (⟨g.val * 128 + d.val, by omega⟩ : Fin 2048))) + a4 (ix2 g p) := by
  pointwise [mix]
  exact congrArg (fun x : EReal => x + a4 (ix2 g p)) (Finset.sum_congr rfl fun s _ => mul_comm _ _)

theorem REF_at (a0 : FVec Ideal S16384x12288 .bf16) (a1 a2 : FVec Ideal S2048 .f32) (a3 : FVec Ideal S16x128x128 .f32) (a4 : FVec Ideal S16x128 .f32) (R : Fin 16384) (C : Fin 2048) :
    REF a0 a1 a2 a3 a4 (ix2 R C) = (show EReal from gated (a0 (ix2 R (⟨C.val, by omega⟩ : Fin 12288))) (fun s => a3 (ix3 (grp C) (⟨R.val % 128, by omega⟩ : Fin 128) s))
      (fun s => lnorm (fun k => a0 (ix2 (⟨R.val / 128 * 128 + s.val, by omega⟩ : Fin 16384) (⟨2048 + k.val, by omega⟩ : Fin 12288))) (fun k => a1 (ix1 k)) (fun k => a2 (ix1 k)) C)
      (⟨R.val % 128, by omega⟩ : Fin 128) (a4 (ix2 (grp C) (⟨R.val % 128, by omega⟩ : Fin 128)))) := by
  have h : REF a0 a1 a2 a3 a4 (ix2 R C) = (show EReal from usel a0 (ix3 (⟨R.val / 8192, by omega⟩ : Fin 2) (⟨R.val % 8192, by omega⟩ : Fin 8192) C))
      * (show EReal from mix (ln3 (dev3 (vsel a0)) a1 a2) (wmask a3 tril) a4 (ix5 (⟨R.val / 8192, by omega⟩ : Fin 2) (⟨R.val % 8192 / 128, by omega⟩ : Fin 64) (⟨R.val % 128, by omega⟩ : Fin 128) (grp C) (⟨C.val % 128, by omega⟩ : Fin 128))) := by
    unfold REF
    generalize mix (ln3 (dev3 (vsel a0)) a1 a2) (wmask a3 tril) a4 = M
    generalize usel a0 = U
    pointwise []
    have e : (⟨R.val % 8192 % 128, by omega⟩ : Fin 128) = ⟨R.val % 128, by omega⟩ := Fin.ext (by dsimp only; omega)
    rw [e]
    rfl
  rw [h, mix_at, usel_at a0 _ _ C R (⟨C.val, by omega⟩ : Fin 12288) (by dsimp only; omega) rfl]
  unfold gated
  refine congrArg₂ (fun a b : EReal => a * b) rfl (congrArg (fun a : EReal => a + a4 (ix2 (grp C) (⟨R.val % 128, by omega⟩ : Fin 128))) (Finset.sum_congr rfl fun s _ => congrArg₂ (fun a b : EReal => a * b) (wmask_at a3 _ _ s) ?_))
  have hC : (⟨(grp C).val * 128 + C.val % 128, by unfold grp; dsimp only; omega⟩ : Fin 2048) = C := Fin.ext (by unfold grp; dsimp only; omega)
  refine (congrArg (fun C => ln3 (dev3 (vsel a0)) a1 a2 (ix3 _ _ C)) hC).trans ?_
  refine (ln3_at _ a1 a2 _ _ C).trans ?_
  exact congrArg (fun x : Fin 2048 → EReal => lnorm x (fun k => a1 (ix1 k)) (fun k => a2 (ix1 k)) C) (funext fun k => vsel_at a0 _ _ k _ _ (by dsimp only; omega) rfl)

end Cert.SguRefIdeal.Value
namespace Cert.SguIdeal.Value

open Cert.SguIdeal Cert.SguIdeal.Gen Cert.Sgu

theorem pay2_at (x : Vec Ideal S1024x2048 .bf16) (g b : Vec Ideal S1x2048 .f32) (r : Fin 1024) (k : Fin 2048) :
    k0_pay2 (F := Ideal) x g b (ix2 r k) = (show EReal from lnorm (fun k => x (ix2 r k)) (fun k => g (ix2 (0 : Fin 1) k)) (fun k => b (ix2 (0 : Fin 1) k)) k) := by
  open_payloads
  pointwise [lnorm, mean]

/-- The causal mask of the weights. -/
theorem mask_at (w : Vec Ideal S1x128x128 .f32) (p s : Fin 128) :
    truncf .bf16 (select k0_pay3 (shapeCast S128x128 w shapeCasts_S1x128x128_S128x128) (broadcast S128x128 (Scalar.ofBits .f32 0x00000000#32 : Ideal .f32))) bitsLt_bf16_f32 (ix2 p s)
      = (show EReal from if s.val ≤ p.val then w (ix3 (0 : Fin 1) p s) else 0) := by
  open_payloads
  pointwise []
  exact sel_le p s _ _

/-- One tile of the block from its mask, its columns, its gate and its bias. -/
theorem tile_at (u : Vec Ideal S128x128 .bf16) (w : FVec Ideal S128x128 .bf16) (V : FVec Ideal S1024x2048 .bf16) (bi : Vec Ideal S128x1 .f32) (ro co : ℕ)
    (hs : S1024x2048.Slices ![ro, co] S128x128) (p q : Fin 128) (hR : ∀ s : Fin 128, ro + s.val < 1024) (hC : co + q.val < 2048) :
    truncf .bf16 (mulf (extf .f32 u bitsLt_bf16_f32) (addf (matmul dot_S128x128_S128x128_S128x128_1_0_0_1_n_n none w (extractStridedSlice S128x128 ![ro, co] V hs) (constant S128x128 .f32 0x00000000#32))
        (broadcastTo S128x128 (shapeCast S128x1 bi shapeCasts_S128x1_S128x1) broadcasts_S128x1_S128x128))) bitsLt_bf16_f32 (ix2 p q)
      = (show EReal from u (ix2 p q)) * ((∑ s : Fin 128, (show EReal from w (ix2 p s)) * V (ix2 (⟨ro + s.val, hR s⟩ : Fin 1024) (⟨co + q.val, hC⟩ : Fin 2048))) + bi (ix2 p (0 : Fin 1))) := by
  pointwise []

theorem ld0 (x : Vec Ideal S1024x2048 .bf16) (ro co : ℕ) (i0 : ∀ a, (![ro, co] : Fin 2 → Nat) a + S128x128.size a ≤ S1024x2048.size a) (p q : Fin 128) (a : Fin 1024) (b : Fin 2048)
    (ha : a.val = ro + p.val) (hb : b.val = co + q.val) :
    View.ld (Val := Elt Ideal) (e' := .bf16) x (Rect.unit (s := S1024x2048) ![ro, co] S128x128.size i0) (ix2 p q) = x (ix2 a b) := by
  pointwise []
  refine congrArg x ?_
  blk_ext! <;> omega

theorem ld1 (x : Vec Ideal S1024x2048 .bf16) (a : Fin 1024) (b : Fin 2048) : View.ld (Val := Elt Ideal) (e' := .bf16) x r0_0 (ix2 a b) = x (ix2 a b) := by
  pointwise []

theorem ld2 (x : Vec Ideal S1x2048 .f32) (b : Fin 2048) : View.ld (Val := Elt Ideal) (e' := .f32) x r0_1 (ix2 (0 : Fin 1) b) = x (ix2 (0 : Fin 1) b) := by
  pointwise []

theorem ld4 (x : Vec Ideal S16x128x128 .f32) (gi : ℕ) (i4 : ∀ a, (![gi, 0, 0] : Fin 3 → Nat) a + S1x128x128.size a ≤ S16x128x128.size a) (g : Fin 16) (hg : g.val = gi) (p s : Fin 128) :
    View.ld (Val := Elt Ideal) (e' := .f32) x (Rect.unit (s := S16x128x128) ![gi, 0, 0] S1x128x128.size i4) (ix3 (0 : Fin 1) p s) = x (ix3 g p s) := by
  pointwise []
  refine congrArg x ?_
  blk_ext! <;> omega

theorem ld5 (x : Vec Ideal S128x16 .f32) (gi : ℕ) (i5 : ∀ a, (![0, gi] : Fin 2 → Nat) a + S128x1.size a ≤ S128x16.size a) (g : Fin 16) (hg : g.val = gi) (p : Fin 128) :
    View.ld (Val := Elt Ideal) (e' := .f32) x (Rect.unit (s := S128x16) ![0, gi] S128x1.size i5) (ix2 p (0 : Fin 1)) = x (ix2 p g) := by
  pointwise []
  refine congrArg x ?_
  blk_ext! <;> omega

/-- An entry of the block the kernel leaves. -/
def kout (x0 x1 : Vec Ideal S1024x2048 .bf16) (x2 x3 : Vec Ideal S1x2048 .f32) (x4 : Vec Ideal S16x128x128 .f32) (x5 : Vec Ideal S128x16 .f32) (a : Fin 1024) (b : Fin 2048) : EReal :=
  gated (x0 (ix2 a b)) (fun s => x4 (ix3 (grp b) (⟨a.val % 128, by omega⟩ : Fin 128) s))
    (fun s => lnorm (fun k => x1 (ix2 (⟨a.val / 128 * 128 + s.val, by omega⟩ : Fin 1024) k)) (fun k => x2 (ix2 (0 : Fin 1) k)) (fun k => x3 (ix2 (0 : Fin 1) k)) b)
    (⟨a.val % 128, by omega⟩ : Fin 128) (x5 (ix2 (⟨a.val % 128, by omega⟩ : Fin 128) (grp b)))

/-- Every tile of the block holds the block's entries. -/
theorem piece (x0 x1 : Vec Ideal S1024x2048 .bf16) (x2 x3 : Vec Ideal S1x2048 .f32) (x4 : Vec Ideal S16x128x128 .f32) (x5 : Vec Ideal S128x16 .f32) (ro co gi : ℕ)
    (i0 : ∀ a, (![ro, co] : Fin 2 → Nat) a + S128x128.size a ≤ S1024x2048.size a) (i4 : ∀ a, (![gi, 0, 0] : Fin 3 → Nat) a + S1x128x128.size a ≤ S16x128x128.size a)
    (i5 : ∀ a, (![0, gi] : Fin 2 → Nat) a + S128x1.size a ≤ S128x16.size a) (hs : S1024x2048.Slices ![ro, co] S128x128) (p q : Fin 128) (a : Fin 1024) (b : Fin 2048)
    (ha : a.val = ro + p.val) (hb : b.val = co + q.val) (hro : ro % 128 = 0) (hco : co = 128 * gi) :
    truncf .bf16 (mulf (extf .f32 (View.ld (Val := Elt Ideal) (e' := .bf16) x0 (Rect.unit (s := S1024x2048) ![ro, co] S128x128.size i0)) bitsLt_bf16_f32) (addf (matmul dot_S128x128_S128x128_S128x128_1_0_0_1_n_n none
          (truncf .bf16 (select k0_pay3 (shapeCast S128x128 (View.ld (Val := Elt Ideal) (e' := .f32) x4 (Rect.unit (s := S16x128x128) ![gi, 0, 0] S1x128x128.size i4)) shapeCasts_S1x128x128_S128x128) (broadcast S128x128 (Scalar.ofBits .f32 0x00000000#32 : Ideal .f32))) bitsLt_bf16_f32)
          (extractStridedSlice S128x128 ![ro, co] (k0_pay2 (F := Ideal) (View.ld (Val := Elt Ideal) (e' := .bf16) x1 r0_0) (View.ld (Val := Elt Ideal) (e' := .f32) x2 r0_1) (View.ld (Val := Elt Ideal) (e' := .f32) x3 r0_1)) hs) (constant S128x128 .f32 0x00000000#32))
        (broadcastTo S128x128 (shapeCast S128x1 (View.ld (Val := Elt Ideal) (e' := .f32) x5 (Rect.unit (s := S128x16) ![0, gi] S128x1.size i5)) shapeCasts_S128x1_S128x1) broadcasts_S128x1_S128x128))) bitsLt_bf16_f32 (ix2 p q)
      = (show EReal from kout x0 x1 x2 x3 x4 x5 a b) := by
  have hp := p.isLt
  have hq := q.isLt
  have hal := a.isLt
  have hbl := b.isLt
  have ep : (⟨a.val % 128, by omega⟩ : Fin 128) = p := Fin.ext (by dsimp only; omega)
  have eg : (grp b).val = gi := by unfold grp; dsimp only; omega
  have eb : (⟨co + q.val, by omega⟩ : Fin 2048) = b := Fin.ext hb.symm
  rw [tile_at _ _ _ _ ro co hs p q (fun s => by omega) (by omega), eb]
  unfold kout gated
  rw [ep]
  refine congrArg₂ (fun a b : EReal => a * b) (ld0 x0 ro co i0 p q a b ha hb) (congrArg₂ (fun a b : EReal => a + b) (Finset.sum_congr rfl fun s _ => congrArg₂ (fun a b : EReal => a * b) ?_ ?_) (ld5 x5 gi i5 (grp b) eg p))
  · refine (mask_at _ p s).trans ?_
    rw [ld4 x4 gi i4 (grp b) eg p s]
  · have er : (⟨ro + s.val, by omega⟩ : Fin 1024) = ⟨a.val / 128 * 128 + s.val, by omega⟩ := Fin.ext (by dsimp only; omega)
    rw [pay2_at, er]
    have hl : ∀ x x' g g' h h' : Fin 2048 → EReal, x = x' → g = g' → h = h' → lnorm x g h b = lnorm x' g' h' b := by
      rintro x _ g _ h _ rfl rfl rfl
      rfl
    exact hl _ _ _ _ _ _ (funext fun k => ld1 x1 _ k) (funext fun k => ld2 x2 k) (funext fun k => ld2 x3 k)

set_option maxHeartbeats 8000000 in
theorem out_at (x0 x1 : Vec Ideal S1024x2048 .bf16) (x2 x3 : Vec Ideal S1x2048 .f32) (x4 : Vec Ideal S16x128x128 .f32) (x5 : Vec Ideal S128x16 .f32) (a : Fin 1024) (b : Fin 2048) :
    out0_6 (F := Ideal) x0 x1 x2 x3 x4 x5 (ix2 a b) = (show EReal from kout x0 x1 x2 x3 x4 x5 a b) := by
  unfold out0_6
  canon_tiles x h
  all_goals
    obtain ⟨p, q, rfl⟩ : ∃ (p : Fin 128) (q : Fin 128), x = ix2 p q := ⟨x 0, x 1, eq_ix2 (n0 := 128) (n1 := 128) x⟩
    have e0 : a.val = _ := h0
    have e1 : b.val = _ := h1
    refine (piece x0 x1 x2 x3 x4 x5 _ _ _ _ _ _ (by first | assumption | decide) p q a b ?_ ?_ ?_ ?_)
    · exact e0.trans (by first | rfl | exact (Nat.zero_add _).symm)
    · exact e1.trans (by first | rfl | exact (Nat.zero_add _).symm)
    · rfl
    · rfl

variable (m : (ℓ : Loc nD τ sig) → Buf (Elt Ideal) ℓ)

theorem idx_val : ∀ t : Fin cfg0.N, win0_0.index t = ![t.val, 0]
    ∧ win0_1.index t = ![t.val, 1]
    ∧ win0_2.index t = ![0, 0]
    ∧ win0_3.index t = ![0, 0]
    ∧ win0_4.index t = ![0, 0, 0]
    ∧ win0_5.index t = ![0, 0]
    ∧ win0_6.index t = ![t.val, 0] :=
  (by decide +kernel : ∀ t : Fin grid0.N, _)

theorem tab2 (c : Dev nD) (k : Fin 2048) : V m c main_v1 (ix2 (0 : Fin 1) k) = (m ((c : Thread nD τ).loc main_arg1)) (ix1 k) := by
  entry_read
  pointwise []

theorem tab3 (c : Dev nD) (k : Fin 2048) : V m c main_v2 (ix2 (0 : Fin 1) k) = (m ((c : Thread nD τ).loc main_arg2)) (ix1 k) := by
  entry_read
  pointwise []

theorem tab5 (c : Dev nD) (p : Fin 128) (g : Fin 16) : V m c main_v0 (ix2 p g) = (m ((c : Thread nD τ).loc main_arg4)) (ix2 g p) := by
  entry_read
  pointwise []

theorem blk0 (c : Dev nD) (t : Fin cfg0.N) (r : Fin 1024) (k : Fin 2048) (R : Fin 16384) (K : Fin 12288) (hR : R.val = 1024 * t.val + r.val) (hK : K.val = k.val) :
    (iblk m c 0 t : Vec Ideal S1024x2048 .bf16) (ix2 r k) = (m ((c : Thread nD τ).loc main_arg0)) (ix2 R K) := by
  blk_point [iblk, V, idx_val t]

theorem blk1 (c : Dev nD) (t : Fin cfg0.N) (r : Fin 1024) (k : Fin 2048) (R : Fin 16384) (K : Fin 12288) (hR : R.val = 1024 * t.val + r.val) (hK : K.val = 2048 + k.val) :
    (iblk m c 1 t : Vec Ideal S1024x2048 .bf16) (ix2 r k) = (m ((c : Thread nD τ).loc main_arg0)) (ix2 R K) := by
  blk_point [iblk, V, idx_val t]

theorem blk2 (c : Dev nD) (t : Fin cfg0.N) (k : Fin 2048) :
    (iblk m c 2 t : Vec Ideal S1x2048 .f32) (ix2 (0 : Fin 1) k) = (m ((c : Thread nD τ).loc main_arg1)) (ix1 k) := by
  refine Eq.trans ?_ (tab2 m c k)
  blk_point [iblk, idx_val t]

theorem blk3 (c : Dev nD) (t : Fin cfg0.N) (k : Fin 2048) :
    (iblk m c 3 t : Vec Ideal S1x2048 .f32) (ix2 (0 : Fin 1) k) = (m ((c : Thread nD τ).loc main_arg2)) (ix1 k) := by
  refine Eq.trans ?_ (tab3 m c k)
  blk_point [iblk, idx_val t]

theorem blk4 (c : Dev nD) (t : Fin cfg0.N) (g : Fin 16) (p s : Fin 128) :
    (iblk m c 4 t : Vec Ideal S16x128x128 .f32) (ix3 g p s) = (m ((c : Thread nD τ).loc main_arg3)) (ix3 g p s) := by
  blk_point [iblk, V, idx_val t]

theorem blk5 (c : Dev nD) (t : Fin cfg0.N) (p : Fin 128) (g : Fin 16) :
    (iblk m c 5 t : Vec Ideal S128x16 .f32) (ix2 p g) = (m ((c : Thread nD τ).loc main_arg4)) (ix2 g p) := by
  refine Eq.trans ?_ (tab5 m c p g)
  blk_point [iblk, idx_val t]

/-- What a point leaves is the reference's block. -/
theorem point (c : Dev nD) (t : Fin cfg0.N) (r : Fin 1024) (C : Fin 2048) (R : Fin 16384) (hR : R.val = 1024 * t.val + r.val) :
    out0_6 (F := Ideal) (iblk m c 0 t) (iblk m c 1 t) (iblk m c 2 t) (iblk m c 3 t) (iblk m c 4 t) (iblk m c 5 t) (ix2 r C) = Cert.SguRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (ix2 R C) := by
  refine (out_at _ _ _ _ _ _ r C).trans ?_
  refine Eq.trans ?_ (Cert.SguRefIdeal.Value.REF_at _ _ _ _ _ R C).symm
  have hr := r.isLt
  have ep : (⟨r.val % 128, by omega⟩ : Fin 128) = ⟨R.val % 128, by omega⟩ := Fin.ext (by dsimp only; omega)
  unfold kout
  rw [ep]
  have e0 := blk0 m c t r C R ⟨C.val, by omega⟩ hR rfl
  have e4 : (fun s => (iblk m c 4 t : Vec Ideal S16x128x128 .f32) (ix3 (grp C) (⟨R.val % 128, by omega⟩ : Fin 128) s)) = fun s => (m ((c : Thread nD τ).loc main_arg3)) (ix3 (grp C) (⟨R.val % 128, by omega⟩ : Fin 128) s) := funext fun s => blk4 m c t _ _ s
  have e1 : ∀ s : Fin 128, (fun k => (iblk m c 1 t : Vec Ideal S1024x2048 .bf16) (ix2 (⟨r.val / 128 * 128 + s.val, by omega⟩ : Fin 1024) k)) = fun k => (m ((c : Thread nD τ).loc main_arg0)) (ix2 (⟨R.val / 128 * 128 + s.val, by omega⟩ : Fin 16384) (⟨2048 + k.val, by omega⟩ : Fin 12288)) :=
    fun s => funext fun k => blk1 m c t _ k _ _ (by dsimp only; omega) rfl
  have e2 : (fun k => (iblk m c 2 t : Vec Ideal S1x2048 .f32) (ix2 (0 : Fin 1) k)) = fun k => (m ((c : Thread nD τ).loc main_arg1)) (ix1 k) := funext fun k => blk2 m c t k
  have e3 : (fun k => (iblk m c 3 t : Vec Ideal S1x2048 .f32) (ix2 (0 : Fin 1) k)) = fun k => (m ((c : Thread nD τ).loc main_arg2)) (ix1 k) := funext fun k => blk3 m c t k
  have e5 := blk5 m c t ⟨R.val % 128, by omega⟩ (grp C)
  rw [e0, e4, e2, e3, e5]
  simp only [e1]

theorem final (c : Dev nD) : (dats m 0 c).arrAt 6 (cfgs 0).N = Cert.SguRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  obtain ⟨r, k, rfl⟩ : ∃ (r : Fin 1024) (k : Fin 2048), y = ix2 r k := ⟨y 0, y 1, eq_ix2 (n0 := 1024) (n1 := 2048) y⟩
  have hr := r.isLt
  have hk := k.isLt
  have ht : t.val < 16 := t.isLt
  refine (point m c t r k ⟨1024 * t.val + r.val, by omega⟩ rfl).trans ?_
  generalize Cert.SguRefIdeal.Value.REF _ _ _ _ _ = f
  refine congrArg f ?_
  blk_point [idx_val t]

end Cert.SguIdeal.Value

end
-- ==== Proof.RopeValue.lean ====
module

public import proofs.«01_k».proof.Proof.Gen.RopeIdeal.Frame
public import proofs.«01_k».proof.Proof.Gen.RopeIdeal.Value
public import proofs.«01_k».proof.Proof.Gen.RopeRefIdeal.Run
public import Idealize.ShloMosaic.Lib.Pipeline.ValueKit
public import Idealize.ShloMosaic.Lib.Pipeline.ReadBack

@[expose] public section

/-! The value of the `Rope` call: the two tables the kernel leaves are the ones the reference returns. -/

set_option maxRecDepth 16384

noncomputable section

open Idealize.ShloMosaic Idealize.ShloMosaic.TcCoe Idealize.SL.Sem
open Idealize.ShloMosaic.Pipeline (Dat)

namespace Cert.RopeRefIdeal.Value

open Cert.RopeRefIdeal Cert.RopeRefIdeal.Gen

/-- The frequencies of the 64 lane pairs. -/
def frq : FVec Ideal S64 .f32 :=
  Host.powf (broadcastInDim S64 ![] bcast_S_S64 (constant S_ .f32 0x461C4000#32)) (Host.negf (Host.divf (mulf (sitofp .f32 (iotaInDim S64 32 0)) (broadcastInDim S64 ![] bcast_S_S64 (constant S_ .f32 0x40000000#32))) (broadcastInDim S64 ![] bcast_S_S64 (constant S_ .f32 0x43000000#32))))

/-- The angles: positions times frequencies. -/
def ang (f : FVec Ideal S64 .f32) : FVec Ideal S8192x64 .f32 :=
  mulf (broadcastInDim S8192x64 ![0, 1] bcast_S8192x1_S8192x64_0_1 (broadcastInDim S8192x1 ![0] bcast_S8192_S8192x1_0 (sitofp .f32 (iotaInDim S8192 32 0)))) (broadcastInDim S8192x64 ![0, 1] bcast_S1x64_S8192x64_0_1 (broadcastInDim S1x64 ![1] bcast_S64_S1x64_1 f))

/-- The cosines, twice. -/
def cosT (a : FVec Ideal S8192x64 .f32) : FVec Ideal S8192x128 .f32 :=
  concatenate S8192x128 1 [⟨S8192x64, (Host.cos a)⟩, ⟨S8192x64, (Host.cos a)⟩] concatenates_S8192x64_S8192x64_S8192x128_d1

/-- The sines, the first half negated. -/
def sinT (a : FVec Ideal S8192x64 .f32) : FVec Ideal S8192x128 .f32 :=
  concatenate S8192x128 1 [⟨S8192x64, (Host.negf (Host.sin a))⟩, ⟨S8192x64, (Host.sin a)⟩] concatenates_S8192x64_S8192x64_S8192x128_d1

/-- A position as a number. -/
def pos (R : ℕ) : EReal := (FloatOps.sitofp .f32 (BitVec.ofNat 32 R) : Ideal .f32)

theorem ang_at (f : FVec Ideal S64 .f32) (R : Fin 8192) (j : Fin 64) : ang f (ix2 R j) = (show EReal from pos R.val * f (ix1 j)) := by
  pointwise [ang]
  rfl

theorem cosT_at (a : FVec Ideal S8192x64 .f32) (R : Fin 8192) (k : Fin 128) : cosT a (ix2 R k) = (show EReal from Ideal.cos (a (ix2 R (⟨k.val % 64, by omega⟩ : Fin 64)))) := by
  have hk := k.isLt
  by_cases h : k.val < 64
  · have e : (⟨k.val % 64, by omega⟩ : Fin 64) = ⟨k.val, h⟩ := Fin.ext (by dsimp only; omega)
    rw [e]
    pointwise [cosT]
    exact dif_pos h
  · have e : (⟨k.val % 64, by omega⟩ : Fin 64) = ⟨k.val - 64, by omega⟩ := Fin.ext (by dsimp only; omega)
    rw [e]
    pointwise [cosT]
    exact dif_neg h

theorem sinT_at (a : FVec Ideal S8192x64 .f32) (R : Fin 8192) (k : Fin 128) :
    sinT a (ix2 R k) = (show EReal from if k.val < 64 then - Ideal.sin (a (ix2 R (⟨k.val % 64, by omega⟩ : Fin 64))) else Ideal.sin (a (ix2 R (⟨k.val % 64, by omega⟩ : Fin 64)))) := by
  have hk := k.isLt
  by_cases h : k.val < 64
  · have e : (⟨k.val % 64, by omega⟩ : Fin 64) = ⟨k.val, h⟩ := Fin.ext (by dsimp only; omega)
    rw [e, if_pos h]
    pointwise [sinT]
    exact dif_pos h
  · have e : (⟨k.val % 64, by omega⟩ : Fin 64) = ⟨k.val - 64, by omega⟩ := Fin.ext (by dsimp only; omega)
    rw [e, if_neg h]
    pointwise [sinT]
    exact dif_neg h

end Cert.RopeRefIdeal.Value

namespace Cert.RopeIdeal.Value

open Cert.RopeIdeal Cert.RopeIdeal.Gen
open Cert.RopeRefIdeal.Value (pos frq ang cosT sinT)

theorem pay1_at (i : grid0.Coords) (x : Vec Ideal S1x128 .f32) (r : Fin 1024) (k : Fin 128) :
    k0_pay1 (F := Ideal) i x (ix2 r k) = (show EReal from pos (1024 * (i 0).val + r.val) * x (ix2 (0 : Fin 1) k)) := by
  have hw : IntOp.addi (IntOp.muli (BitVec.ofNat 32 (i 0).val) 1024#32) (BitVec.ofNat 32 r.val) = BitVec.ofNat 32 (1024 * (i 0).val + r.val) := by
    show BitVec.ofNat 32 (i 0).val * BitVec.ofNat 32 1024 + BitVec.ofNat 32 r.val = _
    rw [BitVec.ofNat_add, Nat.mul_comm, BitVec.ofNat_mul]
  unfold pos
  rw [← hw]
  pointwise [k0_pay1]
  rfl

theorem pay2_at (i : grid0.Coords) (x : Vec Ideal S1x128 .f32) (r : Fin 1024) (k : Fin 128) :
    k0_pay2 (F := Ideal) i x (ix2 r k) = (show EReal from Ideal.cos (pos (1024 * (i 0).val + r.val) * x (ix2 (0 : Fin 1) k))) := by
  have h := pay1_at i x r k
  unfold k0_pay2
  generalize k0_pay1 (F := Ideal) i x = P at h ⊢
  exact congrArg Ideal.cos h

theorem pay3_at (i : grid0.Coords) (x : Vec Ideal S1x128 .f32) (r : Fin 1024) (k : Fin 128) :
    k0_pay3 (F := Ideal) i x (ix2 r k) = (show EReal from if k.val < 64 then - Ideal.sin (pos (1024 * (i 0).val + r.val) * x (ix2 (0 : Fin 1) k)) else Ideal.sin (pos (1024 * (i 0).val + r.val) * x (ix2 (0 : Fin 1) k))) := by
  have h := pay1_at i x r k
  have hk := k.isLt
  refine Eq.trans ?_ (congrArg (fun z : EReal => if k.val < 64 then - Ideal.sin z else Ideal.sin z) h)
  unfold k0_pay3
  generalize k0_pay1 (F := Ideal) i x = P
  pointwise []
  have hc : IntOp.cmpi .slt (BitVec.ofNat 32 k.val) 64#32 = BitVec.ofBool (decide (k.val < 64)) := WordCmp.cmpi_slt_ofNat (w := 32) (a := k.val) (b := 64) (by omega) (by omega)
  have hz : ∀ z : EReal, 0 - z = - z := fun z => zero_sub z
  rw [hc, WordCmp.select_ofBool]
  by_cases hlt : k.val < 64
  · simp only [hlt, decide_true, if_true]
    exact hz _
  · simp only [hlt, decide_false, if_false, Bool.false_eq_true]

theorem ld (x : Vec Ideal S1x128 .f32) (k : Fin 128) : View.ld (Val := Elt Ideal) (e' := .f32) x r0_0 (ix2 (0 : Fin 1) k) = x (ix2 (0 : Fin 1) k) := by
  pointwise []

theorem out1_at (i : grid0.Coords) (x : Vec Ideal S1x128 .f32) (r : Fin 1024) (k : Fin 128) :
    out0_1 (F := Ideal) i x (ix2 r k) = (show EReal from Ideal.cos (pos (1024 * (i 0).val + r.val) * x (ix2 (0 : Fin 1) k))) := by
  refine Eq.trans ?_ (congrArg (fun z : EReal => Ideal.cos (pos (1024 * (i 0).val + r.val) * z)) (ld x k))
  refine Eq.trans ?_ (pay2_at i (View.ld (Val := Elt Ideal) (e' := .f32) x r0_0) r k)
  unfold out0_1
  canon_tiles y h
  obtain ⟨p, q, rfl⟩ : ∃ (p : Fin 1024) (q : Fin 128), y = ix2 p q := ⟨y 0, y 1, eq_ix2 (n0 := 1024) (n1 := 128) y⟩
  obtain rfl : r = p := Fin.ext h0
  obtain rfl : k = q := Fin.ext h1
  rfl

theorem out2_at (i : grid0.Coords) (x : Vec Ideal S1x128 .f32) (r : Fin 1024) (k : Fin 128) :
    out0_2 (F := Ideal) i x (ix2 r k) = (show EReal from if k.val < 64 then - Ideal.sin (pos (1024 * (i 0).val + r.val) * x (ix2 (0 : Fin 1) k)) else Ideal.sin (pos (1024 * (i 0).val + r.val) * x (ix2 (0 : Fin 1) k))) := by
  refine Eq.trans ?_ (congrArg (fun z : EReal => if k.val < 64 then - Ideal.sin (pos (1024 * (i 0).val + r.val) * z) else Ideal.sin (pos (1024 * (i 0).val + r.val) * z)) (ld x k))
  refine Eq.trans ?_ (pay3_at i (View.ld (Val := Elt Ideal) (e' := .f32) x r0_0) r k)
  unfold out0_2
  canon_tiles y h
  obtain ⟨p, q, rfl⟩ : ∃ (p : Fin 1024) (q : Fin 128), y = ix2 p q := ⟨y 0, y 1, eq_ix2 (n0 := 1024) (n1 := 128) y⟩
  obtain rfl : r = p := Fin.ext h0
  obtain rfl : k = q := Fin.ext h1
  rfl

variable (m : (ℓ : Loc nD τ sig) → Buf (Elt Ideal) ℓ)

theorem idx_val : ∀ t : Fin cfg0.N, win0_0.index t = ![0, 0]
    ∧ win0_1.index t = ![t.val, 0]
    ∧ win0_2.index t = ![t.val, 0]
    ∧ (grid0.coords t 0).val = t.val :=
  (by decide +kernel : ∀ t : Fin grid0.N, _)

theorem tab (c : Dev nD) (k : Fin 128) : V m c main_v9 (ix2 (0 : Fin 1) k) = (show EReal from frq (ix1 (⟨k.val % 64, by omega⟩ : Fin 64))) := by
  have hk := k.isLt
  entry_read
  change shapeCast S1x128 (concatenate S128 0 [⟨S64, frq⟩, ⟨S64, frq⟩] concatenates_S64_S64_S128_d0) shapeCasts_S128_S1x128 (ix2 (0 : Fin 1) k) = _
  generalize frq = f
  by_cases h : k.val < 64
  · have e : (⟨k.val % 64, by omega⟩ : Fin 64) = ⟨k.val, h⟩ := Fin.ext (by dsimp only; omega)
    rw [e]
    pointwise []
    exact dif_pos h
  · have e : (⟨k.val % 64, by omega⟩ : Fin 64) = ⟨k.val - 64, by omega⟩ := Fin.ext (by dsimp only; omega)
    rw [e]
    pointwise []
    exact dif_neg h

theorem blk0 (c : Dev nD) (t : Fin cfg0.N) (k : Fin 128) :
    (iblk m c 0 t : Vec Ideal S1x128 .f32) (ix2 (0 : Fin 1) k) = (show EReal from frq (ix1 (⟨k.val % 64, by omega⟩ : Fin 64))) := by
  refine Eq.trans ?_ (tab m c k)
  blk_point [iblk, idx_val t]

/-- The cosines a point leaves. -/
theorem point1 (c : Dev nD) (t : Fin cfg0.N) (r : Fin 1024) (k : Fin 128) (R : Fin 8192) (hR : R.val = 1024 * t.val + r.val) :
    out0_1 (F := Ideal) (grid0.coords t) (iblk m c 0 t) (ix2 r k) = cosT (ang frq) (ix2 R k) := by
  refine (out1_at _ _ r k).trans ?_
  refine Eq.trans ?_ (Cert.RopeRefIdeal.Value.cosT_at (ang frq) R k).symm
  have hg := (idx_val t).2.2.2
  rw [Cert.RopeRefIdeal.Value.ang_at, hR, hg, blk0 m c t k]

/-- The sines a point leaves. -/
theorem point2 (c : Dev nD) (t : Fin cfg0.N) (r : Fin 1024) (k : Fin 128) (R : Fin 8192) (hR : R.val = 1024 * t.val + r.val) :
    out0_2 (F := Ideal) (grid0.coords t) (iblk m c 0 t) (ix2 r k) = sinT (ang frq) (ix2 R k) := by
  refine (out2_at _ _ r k).trans ?_
  refine Eq.trans ?_ (Cert.RopeRefIdeal.Value.sinT_at (ang frq) R k).symm
  have hg := (idx_val t).2.2.2
  rw [Cert.RopeRefIdeal.Value.ang_at, hR, hg, blk0 m c t k]

theorem final_1 (c : Dev nD) : (dats m 0 c).arrAt 1 (cfgs 0).N = cosT (ang frq) := by
  refine (dats m 0 c).arrAt_eq_of_covers 1 _ (by decide +kernel) fun t hf y => ?_
  blk_simp; rw [after0_1]
  obtain ⟨r, k, rfl⟩ : ∃ (r : Fin 1024) (k : Fin 128), y = ix2 r k := ⟨y 0, y 1, eq_ix2 (n0 := 1024) (n1 := 128) y⟩
  have hr := r.isLt
  have hk := k.isLt
  have ht : t.val < 8 := t.isLt
  refine (point1 m c t r k ⟨1024 * t.val + r.val, by omega⟩ rfl).trans ?_
  generalize cosT _ = f
  refine congrArg f ?_
  blk_point [idx_val t]

theorem final_2 (c : Dev nD) : (dats m 0 c).arrAt 2 (cfgs 0).N = sinT (ang frq) := by
  refine (dats m 0 c).arrAt_eq_of_covers 2 _ (by decide +kernel) fun t hf y => ?_
  blk_simp; rw [after0_2]
  obtain ⟨r, k, rfl⟩ : ∃ (r : Fin 1024) (k : Fin 128), y = ix2 r k := ⟨y 0, y 1, eq_ix2 (n0 := 1024) (n1 := 128) y⟩
  have hr := r.isLt
  have hk := k.isLt
  have ht : t.val < 8 := t.isLt
  refine (point2 m c t r k ⟨1024 * t.val + r.val, by omega⟩ rfl).trans ?_
  generalize sinT _ = f
  refine congrArg f ?_
  blk_point [idx_val t]

end Cert.RopeIdeal.Value

end
-- ==== Proof.NormValue.lean ====
module

public import proofs.«01_k».proof.Proof.Gen.NormIdeal.Frame
public import proofs.«01_k».proof.Proof.Gen.NormIdeal.Value
public import proofs.«01_k».proof.Proof.Gen.NormRefIdeal.Run
public import Idealize.ShloMosaic.Lib.Pipeline.ValueKit

@[expose] public section

/-! The value of the `Norm` call: what the kernel leaves in its result array is what the reference returns. -/

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormRefIdeal.Gen

/-- What the reference returns, as one term over its arguments. -/
def REF (a0 : FVec Ideal S16384x4096 .f32) (a1 : FVec Ideal S4096 .f32) : FVec Ideal S16384x4096 .bf16 :=
  truncf .bf16 (mulf (mulf a0 (broadcastInDim S16384x4096 ![0, 1] bcast_S16384x1_S16384x4096_0_1 (Host.rsqrt (addf (Host.divf (broadcastInDim S16384x1 ![0] bcast_S16384_S16384x1_0 (Host.reduceAdd (mulf a0 a0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 a1))) bitsLt_bf16_f32

end Cert.NormRefIdeal.Value

namespace Cert.NormIdeal.Value

open Cert.NormIdeal Cert.NormIdeal.Gen
open Cert.NormRefIdeal.Value (REF)

variable (m : (ℓ : Loc nD τ sig) → Buf (Elt Ideal) ℓ)

/-- The block of every window at a grid point. -/
theorem idx_val : ∀ t : Fin cfg0.N, win0_0.index t = ![t.val, 0]
    ∧ win0_1.index t = ![0, 0]
    ∧ win0_2.index t = ![t.val, 0] :=
  (by decide +kernel : ∀ t : Fin grid0.N, _)

-- window 1's array `main_v0` is made by @main's host operations before the region (= shapeCast _ main_arg1 shapeCasts_S4096_S1x4096): read `V m c main_v0` with `entry_read`, never by a rewriting lemma

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  pointwise [k0_pay1, REF]; blk_point [iblk, V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.NormIdeal.Value

end
-- ==== Proof.lean ====
module

public import proofs.«01_k».proof.Defs
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.InRest
public import proofs.«01_k».proof.Proof.Gen.InRest.Skeleton
public import proofs.«01_k».proof.Proof.Gen.InRest.Launch
public import proofs.«01_k».proof.Proof.Gen.InRest.Points
public import proofs.«01_k».proof.Proof.Gen.InRest.Frame
public import proofs.«01_k».proof.Proof.Gen.InRestIdeal
public import proofs.«01_k».proof.Proof.Gen.InRestIdeal.Skeleton
public import proofs.«01_k».proof.Proof.Gen.InRestIdeal.Launch
public import proofs.«01_k».proof.Proof.Gen.InRestIdeal.Points
public import proofs.«01_k».proof.Proof.Gen.InRestIdeal.Frame
public import proofs.«01_k».proof.Proof.Gen.InRestRefIdeal
public import proofs.«01_k».proof.Proof.Gen.InQkv
public import proofs.«01_k».proof.Proof.Gen.InQkv.Skeleton
public import proofs.«01_k».proof.Proof.Gen.InQkv.Launch
public import proofs.«01_k».proof.Proof.Gen.InQkv.Points
public import proofs.«01_k».proof.Proof.Gen.InQkv.Frame
public import proofs.«01_k».proof.Proof.Gen.InQkvIdeal
public import proofs.«01_k».proof.Proof.Gen.InQkvIdeal.Skeleton
public import proofs.«01_k».proof.Proof.Gen.InQkvIdeal.Launch
public import proofs.«01_k».proof.Proof.Gen.InQkvIdeal.Points
public import proofs.«01_k».proof.Proof.Gen.InQkvIdeal.Frame
public import proofs.«01_k».proof.Proof.Gen.InQkvRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Pre_gate_finite
public import proofs.«01_k».proof.Proof.Gen.Pre_operands_finite
public import proofs.«01_k».proof.Proof.Gen.XattnIdeal.Value
public import proofs.«01_k».proof.Proof.Gen.XattnRefIdeal.Run
public import proofs.«01_k».proof.Proof.XattnValue
public import proofs.«01_k».proof.Proof.Gen.MemkvIdeal.Value
public import proofs.«01_k».proof.Proof.Gen.MemkvRefIdeal.Run
public import proofs.«01_k».proof.Proof.MemkvValue
public import proofs.«01_k».proof.Proof.Gen.MergeIdeal.Value
public import proofs.«01_k».proof.Proof.Gen.MergeRefIdeal.Run
public import proofs.«01_k».proof.Proof.MergeValue
public import proofs.«01_k».proof.Proof.Gen.OutprojIdeal.Value
public import proofs.«01_k».proof.Proof.Gen.OutprojRefIdeal.Run
public import proofs.«01_k».proof.Proof.OutprojValue
public import proofs.«01_k».proof.Proof.Gen.FfnUpIdeal.Value
public import proofs.«01_k».proof.Proof.Gen.FfnUpRefIdeal.Run
public import proofs.«01_k».proof.Proof.FfnUpValue
public import proofs.«01_k».proof.Proof.Gen.FfnDownIdeal.Value
public import proofs.«01_k».proof.Proof.Gen.FfnDownRefIdeal.Run
public import proofs.«01_k».proof.Proof.FfnDownValue
public import proofs.«01_k».proof.Proof.Gen.InRestIdeal.Value
public import proofs.«01_k».proof.Proof.Gen.InRestRefIdeal.Run
public import proofs.«01_k».proof.Proof.InRestValue
public import proofs.«01_k».proof.Proof.Gen.InQkvIdeal.Value
public import proofs.«01_k».proof.Proof.Gen.InQkvRefIdeal.Run
public import proofs.«01_k».proof.Proof.InQkvValue
public import proofs.«01_k».proof.Proof.Gen.SguIdeal.Value
public import proofs.«01_k».proof.Proof.Gen.SguRefIdeal.Run
public import proofs.«01_k».proof.Proof.SguValue
public import proofs.«01_k».proof.Proof.Gen.RopeIdeal.Value
public import proofs.«01_k».proof.Proof.Gen.RopeRefIdeal.Run
public import proofs.«01_k».proof.Proof.RopeValue
public import proofs.«01_k».proof.Proof.Gen.NormIdeal.Value
public import proofs.«01_k».proof.Proof.Gen.NormRefIdeal.Run
public import proofs.«01_k».proof.Proof.NormValue
public import Idealize.ShloMosaic.Lib.Claim
public import Idealize.ShloMosaic.Adequacy
public import Idealize.ShloMosaic.Init

@[expose] public section

noncomputable section

namespace Cert.Proof

open Idealize.ShloMosaic Idealize.SL.Sem Cert.Xattn

/-- The reference `XattnRefIdeal` runs and leaves its arguments as they were. -/
theorem quiescent_XattnRefIdeal : Cert.quiescent_XattnRefIdeal :=
  fun m g _ => (θ_run Cert.XattnRefIdeal.defs _ _).mono (fun r h => ⟨fun c => (h c).2.2, sem_eq_zero_of_no_sems (by decide) r.2⟩) (Cert.XattnRefIdeal.Value.run (F := Ideal) m g)

/-- The reference `MemkvRefIdeal` runs and leaves its arguments as they were. -/
theorem quiescent_MemkvRefIdeal : Cert.quiescent_MemkvRefIdeal :=
  fun m g _ => (θ_run Cert.MemkvRefIdeal.defs _ _).mono (fun r h => ⟨fun c => (h c).2, sem_eq_zero_of_no_sems (by decide) r.2⟩) (Cert.MemkvRefIdeal.Value.run (F := Ideal) m g)

/-- The reference `MergeRefIdeal` runs and leaves its arguments as they were. -/
theorem quiescent_MergeRefIdeal : Cert.quiescent_MergeRefIdeal :=
  fun m g _ => (θ_run Cert.MergeRefIdeal.defs _ _).mono (fun r h => ⟨fun c => (h c).2, sem_eq_zero_of_no_sems (by decide) r.2⟩) (Cert.MergeRefIdeal.Value.run (F := Ideal) m g)

/-- The reference `OutprojRefIdeal` runs and leaves its arguments as they were. -/
theorem quiescent_OutprojRefIdeal : Cert.quiescent_OutprojRefIdeal :=
  fun m g _ => (θ_run Cert.OutprojRefIdeal.defs _ _).mono (fun r h => ⟨fun c => (h c).2, sem_eq_zero_of_no_sems (by decide) r.2⟩) (Cert.OutprojRefIdeal.Value.run (F := Ideal) m g)

/-- The reference `FfnUpRefIdeal` runs and leaves its arguments as they were. -/
theorem quiescent_FfnUpRefIdeal : Cert.quiescent_FfnUpRefIdeal :=
  fun m g _ => (θ_run Cert.FfnUpRefIdeal.defs _ _).mono (fun r h => ⟨fun c => (h c).2, sem_eq_zero_of_no_sems (by decide) r.2⟩) (Cert.FfnUpRefIdeal.Value.run (F := Ideal) m g)

/-- The reference `FfnDownRefIdeal` runs and leaves its arguments as they were. -/
theorem quiescent_FfnDownRefIdeal : Cert.quiescent_FfnDownRefIdeal :=
  fun m g _ => (θ_run Cert.FfnDownRefIdeal.defs _ _).mono (fun r h => ⟨fun c => (h c).2, sem_eq_zero_of_no_sems (by decide) r.2⟩) (Cert.FfnDownRefIdeal.Value.run (F := Ideal) m g)

/-- The reference `InRestRefIdeal` runs and leaves its arguments as they were. -/
theorem quiescent_InRestRefIdeal : Cert.quiescent_InRestRefIdeal :=
  fun m g _ => (θ_run Cert.InRestRefIdeal.defs _ _).mono (fun r h => ⟨fun c => (h c).2, sem_eq_zero_of_no_sems (by decide) r.2⟩) (Cert.InRestRefIdeal.Value.run (F := Ideal) m g)

/-- The reference `InQkvRefIdeal` runs and leaves its arguments as they were. -/
theorem quiescent_InQkvRefIdeal : Cert.quiescent_InQkvRefIdeal :=
  fun m g _ => (θ_run Cert.InQkvRefIdeal.defs _ _).mono (fun r h => ⟨fun c => (h c).2, sem_eq_zero_of_no_sems (by decide) r.2⟩) (Cert.InQkvRefIdeal.Value.run (F := Ideal) m g)

/-- The reference `SguRefIdeal` runs and leaves its arguments as they were. -/
theorem quiescent_SguRefIdeal : Cert.quiescent_SguRefIdeal :=
  fun m g _ => (θ_run Cert.SguRefIdeal.defs _ _).mono (fun r h => ⟨fun c => (h c).2, sem_eq_zero_of_no_sems (by decide) r.2⟩) (Cert.SguRefIdeal.Value.run (F := Ideal) m g)

/-- The reference `RopeRefIdeal` runs and leaves its arguments as they were. -/
theorem quiescent_RopeRefIdeal : Cert.quiescent_RopeRefIdeal :=
  fun m g _ => (θ_run Cert.RopeRefIdeal.defs _ _).mono (fun r h => ⟨fun c => trivial, sem_eq_zero_of_no_sems (by decide) r.2⟩) (Cert.RopeRefIdeal.Value.run (F := Ideal) m g)

/-- The reference `NormRefIdeal` runs and leaves its arguments as they were. -/
theorem quiescent_NormRefIdeal : Cert.quiescent_NormRefIdeal :=
  fun m g _ => (θ_run Cert.NormRefIdeal.defs _ _).mono (fun r h => ⟨fun c => (h c).2, sem_eq_zero_of_no_sems (by decide) r.2⟩) (Cert.NormRefIdeal.Value.run (F := Ideal) m g)

/-- The two programs of `Xattn` end with the same result. -/
theorem algebraic_XattnIdeal_XattnRefIdeal : Cert.algebraic_XattnIdeal_XattnRefIdeal := by
  pair_intro
  · run_from Cert.XattnIdeal.Gen.run_main m g
  · run_from Cert.XattnRefIdeal.Value.run m' g'
    · obtain ⟨h0, h1, h2, h3, h4, h5⟩ := hagree c
      refine (Cert.XattnRefIdeal.Value.resX_eq m' c).trans ?_
      rw [h0, h1, h2, h3, h4]
      exact (Cert.XattnIdeal.Value.final_6 m c).symm
    · obtain ⟨h0, h1, h2, h3, h4, h5⟩ := hagree c
      refine (Cert.XattnRefIdeal.Value.resH_eq m' c).trans ?_
      rw [h0, h1, h2, h3, h4, h5]
      exact (Cert.XattnIdeal.Value.final_7 m c).symm

/-- The two programs of `Memkv` end with the same result. -/
theorem algebraic_MemkvIdeal_MemkvRefIdeal : Cert.algebraic_MemkvIdeal_MemkvRefIdeal := by
  pair_intro
  · run_from Cert.MemkvIdeal.Gen.run_main m g
  · run_from Cert.MemkvRefIdeal.Value.run m' g'
    exact (Cert.MemkvIdeal.Value.final m c).symm

/-- The two programs of `Merge` end with the same result. -/
theorem algebraic_MergeIdeal_MergeRefIdeal : Cert.algebraic_MergeIdeal_MergeRefIdeal := by
  pair_intro
  · run_from Cert.MergeIdeal.Gen.run_main m g
  · run_from Cert.MergeRefIdeal.Value.run m' g'
    exact (Cert.MergeIdeal.Value.final m c).symm

/-- The two programs of `Outproj` end with the same result. -/
theorem algebraic_OutprojIdeal_OutprojRefIdeal : Cert.algebraic_OutprojIdeal_OutprojRefIdeal := by
  pair_intro
  · run_from Cert.OutprojIdeal.Gen.run_main m g
  · run_from Cert.OutprojRefIdeal.Value.run m' g'
    exact (Cert.OutprojIdeal.Value.final m c).symm

/-- The two programs of `FfnUp` end with the same result. -/
theorem algebraic_FfnUpIdeal_FfnUpRefIdeal_pre_gate_finite : Cert.algebraic_FfnUpIdeal_FfnUpRefIdeal_pre_gate_finite := by
  pair_intro
  · run_from Cert.FfnUpIdeal.Gen.run_main m g
  · run_from Cert.FfnUpRefIdeal.Value.run m' g'
    exact (Cert.FfnUpRefIdeal.Value.ref_eq _ _ _ (Cert.FfnUpRefIdeal.Value.operands _ _ _ (hpre c)).1 (Cert.FfnUpRefIdeal.Value.operands _ _ _ (hpre c)).2).trans (Cert.FfnUpIdeal.Value.final m c).symm

/-- The two programs of `FfnDown` end with the same result. -/
theorem algebraic_FfnDownIdeal_FfnDownRefIdeal : Cert.algebraic_FfnDownIdeal_FfnDownRefIdeal := by
  pair_intro
  · run_from Cert.FfnDownIdeal.Gen.run_main m g
  · run_from Cert.FfnDownRefIdeal.Value.run m' g'
    exact (Cert.FfnDownIdeal.Value.final m c).symm

/-- The two programs of `InRest` end with the same result. -/
theorem algebraic_InRestIdeal_InRestRefIdeal_pre_operands_finite : Cert.algebraic_InRestIdeal_InRestRefIdeal_pre_operands_finite := by
  pair_intro
  · run_from Cert.InRestIdeal.Gen.run_main m g
  · run_from Cert.InRestRefIdeal.Value.run m' g'
    exact (Cert.InRestRefIdeal.Value.ref_eq _ _ (Cert.InRestRefIdeal.Value.operands _ _ (hpre c)).1 (Cert.InRestRefIdeal.Value.operands _ _ (hpre c)).2).trans (Cert.InRestIdeal.Value.final m c).symm

/-- The two programs of `InQkv` end with the same result. -/
theorem algebraic_InQkvIdeal_InQkvRefIdeal : Cert.algebraic_InQkvIdeal_InQkvRefIdeal := by
  pair_intro
  · run_from Cert.InQkvIdeal.Gen.run_main m g
  · run_from Cert.InQkvRefIdeal.Value.run m' g'
    obtain ⟨h0, h1, h2, h3⟩ := hagree c
    refine (Cert.InQkvRefIdeal.Value.res_eq m' c).trans ?_
    rw [h0, h1, h2, h3]
    exact (Cert.InQkvIdeal.Value.final m c).symm

/-- The two programs of `Sgu` end with the same result. -/
theorem algebraic_SguIdeal_SguRefIdeal : Cert.algebraic_SguIdeal_SguRefIdeal := by
  pair_intro
  · run_from Cert.SguIdeal.Gen.run_main m g
  · run_from Cert.SguRefIdeal.Value.run m' g'
    obtain ⟨h0, h1, h2, h3, h4⟩ := hagree c
    refine (Cert.SguRefIdeal.Value.res_eq m' c).trans ?_
    rw [h0, h1, h2, h3, h4]
    exact (Cert.SguIdeal.Value.final m c).symm

/-- The two programs of `Rope` end with the same result. -/
theorem algebraic_RopeIdeal_RopeRefIdeal : Cert.algebraic_RopeIdeal_RopeRefIdeal := by
  pair_intro
  · run_from Cert.RopeIdeal.Gen.run_main m g
  · run_from Cert.RopeRefIdeal.Value.run m' g'
    · exact (Cert.RopeIdeal.Value.final_1 m c).symm
    · exact (Cert.RopeIdeal.Value.final_2 m c).symm

/-- The two programs of `Norm` end with the same result. -/
theorem algebraic_NormIdeal_NormRefIdeal : Cert.algebraic_NormIdeal_NormRefIdeal := by
  pair_intro
  · run_from Cert.NormIdeal.Gen.run_main m g
  · run_from Cert.NormRefIdeal.Value.run m' g'
    exact (Cert.NormIdeal.Value.final m c).symm

/-- Every claim. -/
theorem claim : Cert.Claim := ⟨Cert.Xattn.Gen.facts, Cert.XattnIdeal.Gen.facts, Cert.XattnRefIdeal.Gen.facts, Cert.Memkv.Gen.facts, Cert.MemkvIdeal.Gen.facts, Cert.MemkvRefIdeal.Gen.facts, Cert.Merge.Gen.facts, Cert.MergeIdeal.Gen.facts, Cert.MergeRefIdeal.Gen.facts, Cert.Outproj.Gen.facts, Cert.OutprojIdeal.Gen.facts, Cert.OutprojRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.InRest.Gen.facts, Cert.InRestIdeal.Gen.facts, Cert.InRestRefIdeal.Gen.facts, Cert.InQkv.Gen.facts, Cert.InQkvIdeal.Gen.facts, Cert.InQkvRefIdeal.Gen.facts, Cert.Sgu.Gen.facts, Cert.SguIdeal.Gen.facts, Cert.SguRefIdeal.Gen.facts, Cert.Rope.Gen.facts, Cert.RopeIdeal.Gen.facts, Cert.RopeRefIdeal.Gen.facts, Cert.Norm.Gen.facts, Cert.NormIdeal.Gen.facts, Cert.NormRefIdeal.Gen.facts, Cert.Pre_gate_finite.Gen.facts, Cert.Pre_operands_finite.Gen.facts,
  fun m g _ => Cert.Xattn.Gen.frame m g,
  fun m g _ => Cert.XattnIdeal.Gen.frame m g,
  quiescent_XattnRefIdeal,
  fun m g _ => Cert.Memkv.Gen.frame m g,
  fun m g _ => Cert.MemkvIdeal.Gen.frame m g,
  quiescent_MemkvRefIdeal,
  fun m g _ => Cert.Merge.Gen.frame m g,
  fun m g _ => Cert.MergeIdeal.Gen.frame m g,
  quiescent_MergeRefIdeal,
  fun m g _ => Cert.Outproj.Gen.frame m g,
  fun m g _ => Cert.OutprojIdeal.Gen.frame m g,
  quiescent_OutprojRefIdeal,
  fun m g _ => Cert.FfnUp.Gen.frame m g,
  fun m g _ => Cert.FfnUpIdeal.Gen.frame m g,
  fun m g _ => Cert.FfnUpIdeal.Gen.frame m g,
  quiescent_FfnUpRefIdeal,
  fun m g _ => quiescent_FfnUpRefIdeal m g trivial,
  fun m g _ => Cert.FfnDown.Gen.frame m g,
  fun m g _ => Cert.FfnDownIdeal.Gen.frame m g,
  quiescent_FfnDownRefIdeal,
  fun m g _ => Cert.InRest.Gen.frame m g,
  fun m g _ => Cert.InRestIdeal.Gen.frame m g,
  fun m g _ => Cert.InRestIdeal.Gen.frame m g,
  quiescent_InRestRefIdeal,
  fun m g _ => quiescent_InRestRefIdeal m g trivial,
  fun m g _ => Cert.InQkv.Gen.frame m g,
  fun m g _ => Cert.InQkvIdeal.Gen.frame m g,
  quiescent_InQkvRefIdeal,
  fun m g _ => Cert.Sgu.Gen.frame m g,
  fun m g _ => Cert.SguIdeal.Gen.frame m g,
  quiescent_SguRefIdeal,
  fun m g _ => Cert.Rope.Gen.frame m g,
  fun m g _ => Cert.RopeIdeal.Gen.frame m g,
  quiescent_RopeRefIdeal,
  fun m g _ => Cert.Norm.Gen.frame m g,
  fun m g _ => Cert.NormIdeal.Gen.frame m g,
  quiescent_NormRefIdeal,
  trivial,
  algebraic_XattnIdeal_XattnRefIdeal,
  trivial,
  algebraic_MemkvIdeal_MemkvRefIdeal,
  trivial,
  algebraic_MergeIdeal_MergeRefIdeal,
  trivial,
  algebraic_OutprojIdeal_OutprojRefIdeal,
  trivial,
  algebraic_FfnUpIdeal_FfnUpRefIdeal_pre_gate_finite,
  trivial,
  algebraic_FfnDownIdeal_FfnDownRefIdeal,
  IdealRules.named_const.statement Cert.InRestIdeal.κ "sqrt_2_pi_cubic" .f32 0x3D122279#32 (((6693141 / 8388608) * (12003091 / 268435456) : ℝ) : EReal) rfl,
  algebraic_InRestIdeal_InRestRefIdeal_pre_operands_finite,
  trivial,
  algebraic_InQkvIdeal_InQkvRefIdeal,
  trivial,
  algebraic_SguIdeal_SguRefIdeal,
  trivial,
  algebraic_RopeIdeal_RopeRefIdeal,
  trivial,
  algebraic_NormIdeal_NormRefIdeal⟩

end Cert.Proof

end
